-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S500x1x4x128 : Shape := ⟨4, ![500, 1, 4, 128]⟩
abbrev S500x1x8x256 : Shape := ⟨4, ![500, 1, 8, 256]⟩
abbrev S500x1x8 : Shape := ⟨3, ![500, 1, 8]⟩
abbrev S500x8x128x256 : Shape := ⟨4, ![500, 8, 128, 256]⟩
abbrev S500x8x128 : Shape := ⟨3, ![500, 8, 128]⟩
abbrev S500x4x128 : Shape := ⟨3, ![500, 4, 128]⟩
abbrev S500x8x256 : Shape := ⟨3, ![500, 8, 256]⟩
abbrev S4x4x128 : Shape := ⟨3, ![4, 4, 128]⟩
abbrev S4x8x256 : Shape := ⟨3, ![4, 8, 256]⟩
abbrev S4x1x8 : Shape := ⟨3, ![4, 1, 8]⟩
abbrev S4x8x128x256 : Shape := ⟨4, ![4, 8, 128, 256]⟩
abbrev S4x8x128 : Shape := ⟨3, ![4, 8, 128]⟩
abbrev S128x128 : Shape := ⟨2, ![128, 128]⟩
abbrev S16x128 : Shape := ⟨2, ![16, 128]⟩
abbrev S32x256 : Shape := ⟨2, ![32, 256]⟩
abbrev S1x4x128 : Shape := ⟨3, ![1, 4, 128]⟩
abbrev S4x128 : Shape := ⟨2, ![4, 128]⟩
abbrev S4 : Shape := ⟨1, ![4]⟩
abbrev S4x1 : Shape := ⟨2, ![4, 1]⟩
abbrev S8x128 : Shape := ⟨2, ![8, 128]⟩
abbrev S1x128 : Shape := ⟨2, ![1, 128]⟩
abbrev S8 : Shape := ⟨1, ![8]⟩
abbrev S8x1 : Shape := ⟨2, ![8, 1]⟩
abbrev S1x8x128 : Shape := ⟨3, ![1, 8, 128]⟩
abbrev S1x1x8 : Shape := ⟨3, ![1, 1, 8]⟩
abbrev S1x8 : Shape := ⟨2, ![1, 8]⟩
abbrev S8x8 : Shape := ⟨2, ![8, 8]⟩
abbrev S16x256 : Shape := ⟨2, ![16, 256]⟩
abbrev S1x2x128x256 : Shape := ⟨4, ![1, 2, 128, 256]⟩
abbrev S2x128x256 : Shape := ⟨3, ![2, 128, 256]⟩
abbrev S256x256 : Shape := ⟨2, ![256, 256]⟩
abbrev S8x256 : Shape := ⟨2, ![8, 256]⟩
abbrev S1x8x256 : Shape := ⟨3, ![1, 8, 256]⟩
abbrev S32x128 : Shape := ⟨2, ![32, 128]⟩
abbrev S128x32 : Shape := ⟨2, ![128, 32]⟩
abbrev S128x160 : Shape := ⟨2, ![128, 160]⟩
abbrev S1x1x128x256 : Shape := ⟨4, ![1, 1, 128, 256]⟩
abbrev S128x256 : Shape := ⟨2, ![128, 256]⟩
abbrev S160x256 : Shape := ⟨2, ![160, 256]⟩
abbrev S128 : Shape := ⟨1, ![128]⟩
abbrev S128x1 : Shape := ⟨2, ![128, 1]⟩
abbrev S1x1 : Shape := ⟨2, ![1, 1]⟩

abbrev nBuf : Space → Nat
  | .hbm => 13
  | .vmem => 21
  | .smem => 0
  | _ => 0

abbrev bufTy : (tb : Table) → Fin (tcTables nBuf tb) → BufTy
  | .hbm, ⟨0, _⟩ => ⟨S500x1x4x128, .bf16⟩
  | .hbm, ⟨1, _⟩ => ⟨S500x1x4x128, .bf16⟩
  | .hbm, ⟨2, _⟩ => ⟨S500x1x8x256, .bf16⟩
  | .hbm, ⟨3, _⟩ => ⟨S500x1x8, .f32⟩
  | .hbm, ⟨4, _⟩ => ⟨S500x1x8, .f32⟩
  | .hbm, ⟨5, _⟩ => ⟨S500x8x128x256, .fp8e4m3⟩
  | .hbm, ⟨6, _⟩ => ⟨S500x8x128, .f32⟩
  | .hbm, ⟨7, _⟩ => ⟨S500x4x128, .bf16⟩
  | .hbm, ⟨8, _⟩ => ⟨S500x4x128, .bf16⟩
  | .hbm, ⟨9, _⟩ => ⟨S500x8x256, .bf16⟩
  | .hbm, ⟨10, _⟩ => ⟨S500x8x256, .bf16⟩
  | .hbm, ⟨11, _⟩ => ⟨S500x8x128x256, .fp8e4m3⟩
  | .hbm, ⟨12, _⟩ => ⟨S500x8x128, .f32⟩
  | .local _ .vmem, ⟨0, _⟩ => ⟨S4x4x128, .bf16⟩
  | .local _ .vmem, ⟨1, _⟩ => ⟨S4x4x128, .bf16⟩
  | .local _ .vmem, ⟨2, _⟩ => ⟨S4x4x128, .bf16⟩
  | .local _ .vmem, ⟨3, _⟩ => ⟨S4x4x128, .bf16⟩
  | .local _ .vmem, ⟨4, _⟩ => ⟨S4x8x256, .bf16⟩
  | .local _ .vmem, ⟨5, _⟩ => ⟨S4x8x256, .bf16⟩
  | .local _ .vmem, ⟨6, _⟩ => ⟨S4x1x8, .f32⟩
  | .local _ .vmem, ⟨7, _⟩ => ⟨S4x1x8, .f32⟩
  | .local _ .vmem, ⟨8, _⟩ => ⟨S4x1x8, .f32⟩
  | .local _ .vmem, ⟨9, _⟩ => ⟨S4x1x8, .f32⟩
  | .local _ .vmem, ⟨10, _⟩ => ⟨S4x8x128x256, .fp8e4m3⟩
  | .local _ .vmem, ⟨11, _⟩ => ⟨S4x8x128x256, .fp8e4m3⟩
  | .local _ .vmem, ⟨12, _⟩ => ⟨S4x8x128, .f32⟩
  | .local _ .vmem, ⟨13, _⟩ => ⟨S4x8x128, .f32⟩
  | .local _ .vmem, ⟨14, _⟩ => ⟨S4x8x256, .bf16⟩
  | .local _ .vmem, ⟨15, _⟩ => ⟨S4x8x256, .bf16⟩
  | .local _ .vmem, ⟨16, _⟩ => ⟨S4x8x128x256, .fp8e4m3⟩
  | .local _ .vmem, ⟨17, _⟩ => ⟨S4x8x128x256, .fp8e4m3⟩
  | .local _ .vmem, ⟨18, _⟩ => ⟨S4x8x128, .f32⟩
  | .local _ .vmem, ⟨19, _⟩ => ⟨S4x8x128, .f32⟩
  | .local _ .vmem, ⟨20, _⟩ => ⟨S128x128, .f32⟩
  | _, _ => ⟨S500x1x4x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x128x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x8x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x8x128x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference.lean ====
abbrev S500x1x4x128 : Shape := ⟨4, ![500, 1, 4, 128]⟩
abbrev S500x1x8x256 : Shape := ⟨4, ![500, 1, 8, 256]⟩
abbrev S500x1x8 : Shape := ⟨3, ![500, 1, 8]⟩
abbrev S500x8x128x256 : Shape := ⟨4, ![500, 8, 128, 256]⟩
abbrev S500x8x128 : Shape := ⟨3, ![500, 8, 128]⟩
abbrev S500x8x256 : Shape := ⟨3, ![500, 8, 256]⟩
abbrev S500x1x4 : Shape := ⟨3, ![500, 1, 4]⟩
abbrev S500x1x4x1 : Shape := ⟨4, ![500, 1, 4, 1]⟩
abbrev S500x8x128x1 : Shape := ⟨4, ![500, 8, 128, 1]⟩
abbrev S500x4x2x128x256 : Shape := ⟨5, ![500, 4, 2, 128, 256]⟩
abbrev S500x8 : Shape := ⟨2, ![500, 8]⟩
abbrev S500x4x2 : Shape := ⟨3, ![500, 4, 2]⟩
abbrev S500x4x2x256 : Shape := ⟨4, ![500, 4, 2, 256]⟩
abbrev S500x4x128 : Shape := ⟨3, ![500, 4, 128]⟩
abbrev S500x4x1x128x1 : Shape := ⟨5, ![500, 4, 1, 128, 1]⟩
abbrev S500x4 : Shape := ⟨2, ![500, 4]⟩
abbrev S500x4x2x1 : Shape := ⟨4, ![500, 4, 2, 1]⟩
abbrev S500x4x1x1 : Shape := ⟨4, ![500, 4, 1, 1]⟩
abbrev S500x4x2x1x1 : Shape := ⟨5, ![500, 4, 2, 1, 1]⟩
abbrev S500x4x2x1x256 : Shape := ⟨5, ![500, 4, 2, 1, 256]⟩

abbrev nBuf : Space → Nat
  | .hbm => 10
  | .vmem => 10
  | .smem => 0
  | _ => 0

abbrev bufTy : (tb : Table) → Fin (tcTables nBuf tb) → BufTy
  | .hbm, ⟨0, _⟩ => ⟨S500x1x4x128, .bf16⟩
  | .hbm, ⟨1, _⟩ => ⟨S500x1x4x128, .bf16⟩
  | .hbm, ⟨2, _⟩ => ⟨S500x1x8x256, .bf16⟩
  | .hbm, ⟨3, _⟩ => ⟨S500x1x8, .f32⟩
  | .hbm, ⟨4, _⟩ => ⟨S500x1x8, .f32⟩
  | .hbm, ⟨5, _⟩ => ⟨S500x8x128x256, .fp8e4m3⟩
  | .hbm, ⟨6, _⟩ => ⟨S500x8x128, .f32⟩
  | .hbm, ⟨7, _⟩ => ⟨S500x8x256, .bf16⟩
  | .hbm, ⟨8, _⟩ => ⟨S500x8x128x256, .fp8e4m3⟩
  | .hbm, ⟨9, _⟩ => ⟨S500x8x128, .f32⟩
  | .local _ .vmem, ⟨0, _⟩ => ⟨S500x1x4x128, .bf16⟩
  | .local _ .vmem, ⟨1, _⟩ => ⟨S500x1x4x128, .bf16⟩
  | .local _ .vmem, ⟨2, _⟩ => ⟨S500x1x8x256, .bf16⟩
  | .local _ .vmem, ⟨3, _⟩ => ⟨S500x1x8, .f32⟩
  | .local _ .vmem, ⟨4, _⟩ => ⟨S500x1x8, .f32⟩
  | .local _ .vmem, ⟨5, _⟩ => ⟨S500x8x128x256, .fp8e4m3⟩
  | .local _ .vmem, ⟨6, _⟩ => ⟨S500x8x128, .f32⟩
  | .local _ .vmem, ⟨7, _⟩ => ⟨S500x8x256, .bf16⟩
  | .local _ .vmem, ⟨8, _⟩ => ⟨S500x8x128x256, .fp8e4m3⟩
  | .local _ .vmem, ⟨9, _⟩ => ⟨S500x8x128, .f32⟩
  | _, _ => ⟨S500x1x4x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S500x1x4x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S500x1x4x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S500x1x8x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S500x1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S500x1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S500x8x128x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S500x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S500x8x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S500x8x128x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S500x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Stage.lean ====
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Val
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers the body runs on -/

/-- Each window's current staging memref at point `t`, spelled as the pipeline passes it (`bodyAt0`), and its wholeness. -/
abbrev ms0_0 (t : Fin cfg0.N) : Memref sig .tc .vmem S4x4x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x4x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x8x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x1x8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x8x128x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x8x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x8x128x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x8x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S128x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Val

end
-- ==== Proof.RunV.lean ====
module

public import proofs.«01_k».proof.Proof.Stage

@[expose] public section

-- membership in a rectangle of production extents (`View.cover_of_tiled`): the elaborator's structural look
-- recurses once per coordinate of the long axes
set_option maxRecDepth 16384

noncomputable section

namespace Cert.Kernel.Val
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1936000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRunV (c : Dev nD) (i : grid0.Coords) (arg1 : Memref sig .tc .vmem S4x4x128 .bf16) (harg1 : arg1.IsWhole) (arg2 : Memref sig .tc .vmem S4x4x128 .bf16) (harg2 : arg2.IsWhole) (arg3 : Memref sig .tc .vmem S4x8x256 .bf16) (harg3 : arg3.IsWhole) (arg4 : Memref sig .tc .vmem S4x1x8 .f32) (harg4 : arg4.IsWhole) (arg5 : Memref sig .tc .vmem S4x1x8 .f32) (harg5 : arg5.IsWhole) (arg6 : Memref sig .tc .vmem S4x8x128x256 .fp8e4m3) (harg6 : arg6.IsWhole) (arg7 : Memref sig .tc .vmem S4x8x128 .f32) (harg7 : arg7.IsWhole) (arg8 : Memref sig .tc .vmem S4x8x256 .bf16) (harg8 : arg8.IsWhole) (arg9 : Memref sig .tc .vmem S4x8x128x256 .fp8e4m3) (harg9 : arg9.IsWhole) (arg10 : Memref sig .tc .vmem S4x8x128 .f32) (harg10 : arg10.IsWhole) (arg11 : Memref sig .tc .vmem S128x128 .f32) (harg11 : arg11.IsWhole)
    (x0 : Vec F S4x4x128 .bf16) (x1 : Vec F S4x4x128 .bf16) (x2 : Vec F S4x8x256 .bf16) (x3 : Vec F S4x1x8 .f32) (x4 : Vec F S4x1x8 .f32) (x5 : Vec F S4x8x128x256 .fp8e4m3) (x6 : Vec F S4x8x128 .f32) :
    Σ' (L7 : List (View.Piece (Elt F) S4x8x256 .bf16)), Σ' (L8 : List (View.Piece (Elt F) S4x8x128x256 .fp8e4m3)), { L9 : Vec F S128x128 .f32 → List (View.Piece (Elt F) S4x8x128 .f32) //
      ∀ (ds0 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare ds0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f (L9 ds0)) ∗ (∃ d, owns (c : Thread nD τ) arg11 fullShare d)) -∗ K ⟨⟩))
          ⊢ wp frame (wpE (defs₀ (F := F)) Variants.none c none) E (cc0_gated_delta_decode i arg1 harg1 arg2 harg2 arg3 harg3 arg4 harg4 arg5 harg5 arg6 harg6 arg7 harg7 arg8 harg8 arg9 harg9 arg10 harg10 arg11 harg11) K } := by
  refine ⟨?_, ?_, ?_, fun ds0 E K => ?run⟩
  case run =>
    simp only [cc0_gated_delta_decode_eq_skeleton]; unfold cc0_gated_delta_decode_skel
    simp only [k0_part68_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _, _; isplitr; swap; · iexact HS0
    ipureintro; rfl

end Cert.Kernel.Val

end
-- ==== Proof.Body.lean ====
module

public import proofs.«01_k».proof.Proof.RunV

@[expose] public section

set_option maxRecDepth 16384

noncomputable section

namespace Cert.Kernel.Val

open Idealize.ShloMosaic Idealize.ShloMosaic.TcCoe
open Cert.Kernel.Facts₀ Cert.Kernel.Facts

variable {F : FTy → Type} [FloatOps F]

/-- The 128 by 128 identity matrix. -/
def EYE : FVec F S128x128 .bf16 :=
  have v0 : IVec S128x128 32 := iota .tc S128x128 32 [0] iota_S128x128_d0_w32
  have v1 : IVec S128x128 32 := iota .tc S128x128 32 [1] iota_S128x128_d1_w32
  have v2 : IVec S128x128 1 := cmpi .eq v0 v1
  have v3 : IVec S128x128 32 := extui 32 v2 natLt_1_32
  have v4 : FVec F S128x128 .f32 := sitofp .f32 v3
  have v5 : FVec F S128x128 .bf16 := truncf .bf16 v4 bitsLt_bf16_f32
  v5

/-- The value head of each of the sixteen stacked rows. -/
def HEAD16 : IVec S16x128 32 :=
  have v6 : IVec S16x128 32 := iota .tc S16x128 32 [0] iota_S16x128_d0_w32
  have c8_i32 : BitVec 32 := 8#32
  have c0_i32 : BitVec 32 := 0#32
  have v7 : BitVec 1 := Scalar.cmpi .eq c8_i32 c0_i32
  have c1_i32 : BitVec 32 := 1#32
  have v8 : BitVec 32 := Scalar.select v7 c1_i32 c8_i32
  have v9 : IVec S16x128 32 := broadcast S16x128 v8
  have v10 : IVec S16x128 32 := remsi v6 v9
  have c0_i32_1 : BitVec 32 := 0#32
  have v13 : IVec S16x128 32 := broadcast S16x128 c0_i32_1
  have v14 : IVec S16x128 1 := cmpi .slt v10 v13
  have c0_i32_2 : BitVec 32 := 0#32
  have v15 : BitVec 1 := Scalar.cmpi .slt v8 c0_i32_2
  have v16 : IVec S16x128 1 := broadcast S16x128 v15
  have v17 : IVec S16x128 1 := broadcastTo S16x128 v16 broadcasts_S16x128_S16x128
  have v18 : IVec S16x128 1 := xori v14 v17
  have c0_i32_0 : BitVec 32 := 0#32
  have v11 : IVec S16x128 32 := broadcast S16x128 c0_i32_0
  have v12 : IVec S16x128 1 := cmpi .ne v10 v11
  have v19 : IVec S16x128 1 := andi v18 v12
  have v20 : IVec S16x128 32 := broadcast S16x128 v8
  have v21 : IVec S16x128 32 := addi v10 v20
  have v22 : IVec S16x128 32 := select v19 v21 v10
  v22

/-- The value head of each of the thirty-two stacked limb rows. -/
def LIMBHEAD : IVec S32x256 32 :=
  have v23 : IVec S32x256 32 := iota .tc S32x256 32 [0] iota_S32x256_d0_w32
  have c8_i32_3 : BitVec 32 := 8#32
  have c0_i32_4 : BitVec 32 := 0#32
  have v24 : BitVec 1 := Scalar.cmpi .eq c8_i32_3 c0_i32_4
  have c1_i32_5 : BitVec 32 := 1#32
  have v25 : BitVec 32 := Scalar.select v24 c1_i32_5 c8_i32_3
  have v26 : IVec S32x256 32 := broadcast S32x256 v25
  have v27 : IVec S32x256 32 := remsi v23 v26
  have c0_i32_7 : BitVec 32 := 0#32
  have v30 : IVec S32x256 32 := broadcast S32x256 c0_i32_7
  have v31 : IVec S32x256 1 := cmpi .slt v27 v30
  have c0_i32_8 : BitVec 32 := 0#32
  have v32 : BitVec 1 := Scalar.cmpi .slt v25 c0_i32_8
  have v33 : IVec S32x256 1 := broadcast S32x256 v32
  have v34 : IVec S32x256 1 := broadcastTo S32x256 v33 broadcasts_S32x256_S32x256
  have v35 : IVec S32x256 1 := xori v31 v34
  have c0_i32_6 : BitVec 32 := 0#32
  have v28 : IVec S32x256 32 := broadcast S32x256 c0_i32_6
  have v29 : IVec S32x256 1 := cmpi .ne v27 v28
  have v36 : IVec S32x256 1 := andi v35 v29
  have v37 : IVec S32x256 32 := broadcast S32x256 v25
  have v38 : IVec S32x256 32 := addi v27 v37
  have v39 : IVec S32x256 32 := select v36 v38 v27
  v39

/-- The lane of each entry of the scratch. -/
def LANE : IVec S128x128 32 :=
  have v40 : IVec S128x128 32 := iota .tc S128x128 32 [1] iota_S128x128_d1_w32
  v40

/-- The largest power of two at most `x`, and 0 at 0. -/
def PW (s : Shape) (x : FVec F s .f32) : FVec F s .f32 :=
  select (cmpf .ogt x (broadcast s (Scalar.ofBits .f32 0x00000000#32 : F .f32)))
    (exp2 (floor (divf (log x) (log (broadcast s (Scalar.ofBits .f32 0x40000000#32 : F .f32))))))
    (broadcast s (Scalar.ofBits .f32 0x00000000#32 : F .f32))

/-- Rows divided by their norm. -/
def L2 (x : Vec F S1x4x128 .bf16) : FVec F S4x128 .f32 :=
  have v42 : FVec F S4x128 .bf16 := shapeCast S4x128 x shapeCasts_S1x4x128_S4x128
  have v43 : FVec F S4x128 .f32 := extf .f32 v42 bitsLt_bf16_f32
  have v47 : FVec F S4x128 .f32 := mulf v43 v43
  have v48 : FVec F S4 .f32 := multiReduction .add [1] S4 v47 0x00000000#32 reduces_S4x128_S4 (.inl rfl) rfl
  have v49 : FVec F S4x1 .f32 := shapeCast S4x1 v48 shapeCasts_S4_S4x1
  have cst_14 : F .f32 := Scalar.ofBits .f32 0x358637BD#32
  have v50 : FVec F S4x1 .f32 := broadcast S4x1 cst_14
  have v51 : FVec F S4x1 .f32 := addf v49 v50
  have v52 : FVec F S4x1 .f32 := rsqrt v51
  have v53 : FVec F S4x128 .f32 := broadcastTo S4x128 v52 broadcasts_S4x1_S4x128
  have v54 : FVec F S4x128 .f32 := mulf v43 v53
  v54

/-- The normalised keys. -/
def KN (x : Vec F S1x4x128 .bf16) : FVec F S4x128 .f32 :=
  have v55 : FVec F S4x128 .bf16 := truncf .bf16 (L2 x) bitsLt_bf16_f32
  have v56 : FVec F S4x128 .f32 := extf .f32 v55 bitsLt_bf16_f32
  v56

/-- The normalised, scaled queries. -/
def QN (x : Vec F S1x4x128 .bf16) : FVec F S4x128 .f32 :=
  have cst_17 : F .f32 := Scalar.ofBits .f32 0x3DB504F3#32
  have v65 : FVec F S4x128 .f32 := broadcast S4x128 cst_17
  have v66 : FVec F S4x128 .f32 := mulf (L2 x) v65
  have v67 : FVec F S4x128 .bf16 := truncf .bf16 v66 bitsLt_bf16_f32
  have v68 : FVec F S4x128 .f32 := extf .f32 v67 bitsLt_bf16_f32
  v68

/-- Each value head's row of its key head. -/
def ROWS (x : FVec F S4x128 .f32) : FVec F S8x128 .f32 :=
  have v69 : IVec S8x128 32 := iota .tc S8x128 32 [0] iota_S8x128_d0_w32
  have c6_i32 : BitVec 32 := 6#32
  have v85 : IVec S8x128 32 := broadcast S8x128 c6_i32
  have v86 : IVec S8x128 1 := cmpi .sge v69 v85
  have v87 : FVec F S1x128 .f32 := extractStridedSlice S1x128 ![3, 0] x slices_S4x128_o3_0_S1x128
  have v88 : FVec F S1x128 .f32 := shapeCast S1x128 v87 shapeCasts_S1x128_S1x128
  have v89 : FVec F S8x128 .f32 := broadcastTo S8x128 v88 broadcasts_S1x128_S8x128
  have c4_i32 : BitVec 32 := 4#32
  have v79 : IVec S8x128 32 := broadcast S8x128 c4_i32
  have v80 : IVec S8x128 1 := cmpi .sge v69 v79
  have v81 : FVec F S1x128 .f32 := extractStridedSlice S1x128 ![2, 0] x slices_S4x128_o2_0_S1x128
  have v82 : FVec F S1x128 .f32 := shapeCast S1x128 v81 shapeCasts_S1x128_S1x128
  have v83 : FVec F S8x128 .f32 := broadcastTo S8x128 v82 broadcasts_S1x128_S8x128
  have c2_i32 : BitVec 32 := 2#32
  have v73 : IVec S8x128 32 := broadcast S8x128 c2_i32
  have v74 : IVec S8x128 1 := cmpi .sge v69 v73
  have v75 : FVec F S1x128 .f32 := extractStridedSlice S1x128 ![1, 0] x slices_S4x128_o1_0_S1x128
  have v76 : FVec F S1x128 .f32 := shapeCast S1x128 v75 shapeCasts_S1x128_S1x128
  have v77 : FVec F S8x128 .f32 := broadcastTo S8x128 v76 broadcasts_S1x128_S8x128
  have v70 : FVec F S1x128 .f32 := extractStridedSlice S1x128 ![0, 0] x slices_S4x128_o0_0_S1x128
  have v71 : FVec F S1x128 .f32 := shapeCast S1x128 v70 shapeCasts_S1x128_S1x128
  have v72 : FVec F S8x128 .f32 := broadcastTo S8x128 v71 broadcasts_S1x128_S8x128
  have v78 : FVec F S8x128 .f32 := select v74 v77 v72
  have v84 : FVec F S8x128 .f32 := select v80 v83 v78
  have v90 : FVec F S8x128 .f32 := select v86 v89 v84
  v90

/-- The product of query and key, by head. -/
def QK (qn8 : FVec F S8x128 .f32) (kn8 : FVec F S8x128 .f32) : FVec F S8x1 .f32 :=
  have v113 : FVec F S8x128 .f32 := mulf qn8 kn8
  have v114 : FVec F S8 .f32 := multiReduction .add [1] S8 v113 0x00000000#32 reduces_S8x128_S8 (.inl rfl) rfl
  have v115 : FVec F S8x1 .f32 := shapeCast S8x1 v114 shapeCasts_S8_S8x1
  v115

/-- The scales of one batch element. -/
def SCL (x : Vec F S1x8x128 .f32) : FVec F S8x128 .f32 :=
  have v117 : FVec F S8x128 .f32 := shapeCast S8x128 x shapeCasts_S1x8x128_S8x128
  have v118 : FVec F S8x128 .bf16 := truncf .bf16 v117 bitsLt_bf16_f32
  have v119 : FVec F S8x128 .f32 := extf .f32 v118 bitsLt_bf16_f32
  v119

/-- A row turned into a column. -/
def COL (x : Vec F S1x1x8 .f32) : FVec F S8x1 .f32 :=
  have v122 : IVec S8x8 32 := iota .tc S8x8 32 [0] iota_S8x8_d0_w32
  have v123 : IVec S8x8 32 := iota .tc S8x8 32 [1] iota_S8x8_d1_w32
  have v124 : IVec S8x8 1 := cmpi .eq v122 v123
  have v121 : FVec F S1x8 .f32 := shapeCast S1x8 x shapeCasts_S1x1x8_S1x8
  have v125 : FVec F S1x8 .f32 := shapeCast S1x8 v121 shapeCasts_S1x8_S1x8
  have v126 : FVec F S8x8 .f32 := broadcastTo S8x8 v125 broadcasts_S1x8_S8x8
  have cst_28 : F .f32 := Scalar.ofBits .f32 0x00000000#32
  have v127 : FVec F S8x8 .f32 := broadcast S8x8 cst_28
  have v128 : FVec F S8x8 .f32 := select v124 v126 v127
  have v129 : FVec F S8 .f32 := multiReduction .add [1] S8 v128 0x00000000#32 reduces_S8x8_S8 (.inl rfl) rfl
  have v130 : FVec F S8x1 .f32 := shapeCast S8x1 v129 shapeCasts_S8_S8x1
  v130

/-- The decay. -/
def EA (x : Vec F S1x1x8 .f32) : FVec F S8x1 .f32 :=
  have v131 : FVec F S8x1 .f32 := exp (COL x)
  v131

/-- Scaled keys over scaled queries. -/
def LHS (kn8 : FVec F S8x128 .f32) (qn8 : FVec F S8x128 .f32) (sc : FVec F S8x128 .f32) : FVec F S16x128 .f32 :=
  have v154 : FVec F S8x128 .f32 := mulf kn8 sc
  have v155 : FVec F S8x128 .f32 := mulf qn8 sc
  have v156 : FVec F S16x128 .f32 := concatenate S16x128 0 [⟨S8x128, v154⟩, ⟨S8x128, v155⟩] concatenates_S8x128_S8x128_S16x128_d0
  v156

/-- The rows of one head, the others zero. -/
def MASK (l : FVec F S16x128 .f32) (h : BitVec 32) : FVec F S16x128 .bf16 :=
  have v158 : IVec S16x128 32 := broadcast S16x128 h
  have v159 : IVec S16x128 1 := cmpi .eq HEAD16 v158
  have cst_40 : F .f32 := Scalar.ofBits .f32 0x00000000#32
  have v160 : FVec F S16x128 .f32 := broadcast S16x128 cst_40
  have v161 : FVec F S16x128 .f32 := select v159 l v160
  have v162 : FVec F S16x128 .bf16 := truncf .bf16 v161 bitsLt_bf16_f32
  v162

/-- One key head against its two value heads. -/
def PAIR (a : FVec F S16x128 .bf16) (b : FVec F S16x128 .bf16) (c : Vec F S1x2x128x256 .fp8e4m3) : FVec F S16x256 .f32 :=
  have v171 : FVec F S16x256 .bf16 := concatenate S16x256 1 [⟨S16x128, a⟩, ⟨S16x128, b⟩] concatenates_S16x128_S16x128_S16x256_d1
  have v169 : FVec F S2x128x256 .fp8e4m3 := shapeCast S2x128x256 c shapeCasts_S1x2x128x256_S2x128x256
  have v170 : FVec F S256x256 .fp8e4m3 := shapeCast S256x256 v169 shapeCasts_S2x128x256_S256x256
  have cst_47 : FVec F S16x256 .f32 := constant S16x256 .f32 0x00000000#32
  have v172 : FVec F S16x256 .f32 := matmul dot_S16x256_S256x256_S16x256_1_0_0_1_n_n none v171 v170 cst_47
  v172

/-- Keys and queries against the state. -/
def PROJ (l : FVec F S16x128 .f32) (c0 : Vec F S1x2x128x256 .fp8e4m3) (c2 : Vec F S1x2x128x256 .fp8e4m3) (c4 : Vec F S1x2x128x256 .fp8e4m3) (c6 : Vec F S1x2x128x256 .fp8e4m3) : FVec F S16x256 .f32 :=
  have cst_38 : F .f32 := Scalar.ofBits .f32 0x00000000#32
  have v157 : FVec F S16x256 .f32 := broadcast S16x256 cst_38
  have v173 : FVec F S16x256 .f32 := addf v157 (PAIR (MASK l 0#32) (MASK l 1#32) c0)
  have v189 : FVec F S16x256 .f32 := addf v173 (PAIR (MASK l 2#32) (MASK l 3#32) c2)
  have v205 : FVec F S16x256 .f32 := addf v189 (PAIR (MASK l 4#32) (MASK l 5#32) c4)
  have v221 : FVec F S16x256 .f32 := addf v205 (PAIR (MASK l 6#32) (MASK l 7#32) c6)
  v221

/-- What the step writes. -/
def DELTA (a : FVec F S8x1 .f32) (bt : FVec F S8x1 .f32) (p : FVec F S16x256 .f32) (v : Vec F S1x8x256 .bf16) : FVec F S8x256 .f32 :=
  have v230 : FVec F S8x256 .f32 := broadcastTo S8x256 bt broadcasts_S8x1_S8x256
  have v225 : FVec F S8x256 .bf16 := shapeCast S8x256 v shapeCasts_S1x8x256_S8x256
  have v226 : FVec F S8x256 .f32 := extf .f32 v225 bitsLt_bf16_f32
  have v227 : FVec F S8x256 .f32 := broadcastTo S8x256 a broadcasts_S8x1_S8x256
  have v222 : FVec F S8x256 .f32 := extractStridedSlice S8x256 ![0, 0] p slices_S16x256_o0_0_S8x256
  have v228 : FVec F S8x256 .f32 := mulf v227 v222
  have v229 : FVec F S8x256 .f32 := subf v226 v228
  have v231 : FVec F S8x256 .f32 := mulf v230 v229
  v231

/-- The outputs of one batch element. -/
def OUT (a : FVec F S8x1 .f32) (qk : FVec F S8x1 .f32) (p : FVec F S16x256 .f32) (d : FVec F S8x256 .f32) : FVec F S1x8x256 .bf16 :=
  have v232 : FVec F S8x256 .f32 := broadcastTo S8x256 a broadcasts_S8x1_S8x256
  have v223 : FVec F S8x256 .f32 := extractStridedSlice S8x256 ![8, 0] p slices_S16x256_o8_0_S8x256
  have v233 : FVec F S8x256 .f32 := mulf v232 v223
  have v234 : FVec F S8x256 .f32 := broadcastTo S8x256 qk broadcasts_S8x1_S8x256
  have v235 : FVec F S8x256 .f32 := mulf v234 d
  have v236 : FVec F S8x256 .f32 := addf v233 v235
  have v237 : FVec F S8x256 .bf16 := truncf .bf16 v236 bitsLt_bf16_f32
  have v240 : FVec F S1x8x256 .bf16 := shapeCast S1x8x256 v237 shapeCasts_S8x256_S1x8x256
  v240

/-- The three limbs of the written row. -/
def LIMBS (d : FVec F S8x256 .f32) (am : FVec F S8x1 .f32) : FVec F S32x256 .f32 :=
  have v241 : FVec F S8x256 .f32 := broadcastTo S8x256 am broadcasts_S8x1_S8x256
  have v242 : FVec F S8x256 .f32 := divf d v241
  have v243 : FVec F S8x256 .bf16 := truncf .bf16 v242 bitsLt_bf16_f32
  have v244 : FVec F S8x256 .f32 := extf .f32 v243 bitsLt_bf16_f32
  have v245 : FVec F S8x256 .f32 := subf v242 v244
  have v246 : FVec F S8x256 .bf16 := truncf .bf16 v245 bitsLt_bf16_f32
  have v247 : FVec F S8x256 .f32 := extf .f32 v246 bitsLt_bf16_f32
  have v248 : FVec F S8x256 .f32 := subf v245 v247
  have v249 : FVec F S8x256 .bf16 := truncf .bf16 v248 bitsLt_bf16_f32
  have v250 : FVec F S8x256 .f32 := extf .f32 v249 bitsLt_bf16_f32
  have cst_75 : F .f32 := Scalar.ofBits .f32 0x00000000#32
  have v251 : FVec F S8x256 .f32 := broadcast S8x256 cst_75
  have v252 : FVec F S32x256 .f32 := concatenate S32x256 0 [⟨S8x256, v244⟩, ⟨S8x256, v247⟩, ⟨S8x256, v250⟩, ⟨S8x256, v251⟩] concatenates_S8x256_S8x256_S8x256_S8x256_S32x256_d0
  v252

/-- The keys as columns, one copy per limb. -/
def KCOLS (kn8 : FVec F S8x128 .f32) : FVec F S128x32 .bf16 :=
  have cst_76 : F .f32 := Scalar.ofBits .f32 0x00000000#32
  have v253 : FVec F S8x128 .f32 := broadcast S8x128 cst_76
  have v254 : FVec F S32x128 .f32 := concatenate S32x128 0 [⟨S8x128, kn8⟩, ⟨S8x128, kn8⟩, ⟨S8x128, kn8⟩, ⟨S8x128, v253⟩] concatenates_S8x128_S8x128_S8x128_S8x128_S32x128_d0
  have v255 : FVec F S128x32 .f32 := transpose S128x32 [1, 0] v254 transposes_S32x128_p1_0_S128x32
  have v256 : FVec F S128x32 .bf16 := truncf .bf16 v255 bitsLt_bf16_f32
  v256

/-- The scales times the power of the decay. -/
def SC2 (sc : FVec F S8x128 .f32) (ap : FVec F S8x1 .f32) : FVec F S8x128 .f32 :=
  have v257 : FVec F S8x128 .f32 := broadcastTo S8x128 ap broadcasts_S8x1_S8x128
  have v258 : FVec F S8x128 .f32 := mulf sc v257
  v258

/-- One head's new state over the mantissa of the decay. -/
def U (row : FVec F S1x128 .f32) (kc : FVec F S128x32 .bf16) (lb : FVec F S32x256 .f32) (c : Vec F S1x1x128x256 .fp8e4m3) (h : BitVec 32) : FVec F S128x256 .f32 :=
  have v260 : FVec F S1x128 .f32 := shapeCast S1x128 row shapeCasts_S1x128_S1x128
  have v261 : FVec F S128x128 .f32 := broadcastTo S128x128 v260 broadcasts_S1x128_S128x128
  have v262 : FVec F S128x128 .bf16 := truncf .bf16 v261 bitsLt_bf16_f32
  have v263 : FVec F S128x128 .bf16 := mulf EYE v262
  have v264 : FVec F S128x160 .bf16 := concatenate S128x160 1 [⟨S128x128, v263⟩, ⟨S128x32, kc⟩] concatenates_S128x128_S128x32_S128x160_d1
  have v266 : FVec F S128x256 .fp8e4m3 := shapeCast S128x256 c shapeCasts_S1x1x128x256_S128x256
  have v267 : FVec F S128x256 .bf16 := extf .bf16 v266 bitsLt_fp8e4m3_bf16
  have v268 : IVec S32x256 32 := broadcast S32x256 h
  have v269 : IVec S32x256 1 := cmpi .eq LIMBHEAD v268
  have cst_82 : F .f32 := Scalar.ofBits .f32 0x00000000#32
  have v270 : FVec F S32x256 .f32 := broadcast S32x256 cst_82
  have v271 : FVec F S32x256 .f32 := select v269 lb v270
  have v272 : FVec F S32x256 .bf16 := truncf .bf16 v271 bitsLt_bf16_f32
  have v273 : FVec F S160x256 .bf16 := concatenate S160x256 0 [⟨S128x256, v267⟩, ⟨S32x256, v272⟩] concatenates_S128x256_S32x256_S160x256_d0
  have cst_83 : FVec F S128x256 .f32 := constant S128x256 .f32 0x00000000#32
  have v274 : FVec F S128x256 .f32 := matmul dot_S128x160_S160x256_S128x256_1_0_0_1_n_n none v264 v273 cst_83
  v274

/-- The largest entry of each row over the largest code. -/
def X (u : FVec F S128x256 .f32) (m : FVec F S1x1 .f32) : FVec F S128x1 .f32 :=
  have v275 : FVec F S128x256 .f32 := absf u
  have v276 : FVec F S128 .f32 := multiReduction .maximumf [1] S128 v275 0xFF800000#32 reduces_S128x256_S128 (.inl rfl) rfl
  have v277 : FVec F S128x1 .f32 := shapeCast S128x1 v276 shapeCasts_S128_S128x1
  have cst_85 : F .f32 := Scalar.ofBits .f32 0x3B124925#32
  have v279 : FVec F S1x1 .f32 := broadcast S1x1 cst_85
  have v280 : FVec F S1x1 .f32 := mulf m v279
  have v281 : FVec F S128x1 .f32 := broadcastTo S128x1 v280 broadcasts_S1x1_S128x1
  have v282 : FVec F S128x1 .f32 := mulf v277 v281
  v282

/-- What the entries are multiplied by. -/
def INV (x : FVec F S128x1 .f32) (m : FVec F S1x1 .f32) : FVec F S128x1 .f32 :=
  have v299 : FVec F S128x1 .f32 := broadcastTo S128x1 m broadcasts_S1x1_S128x1
  have cst_89 : F .f32 := Scalar.ofBits .f32 0x00000000#32
  have v293 : FVec F S128x1 .f32 := broadcast S128x1 cst_89
  have v294 : IVec S128x1 1 := cmpf .oeq (PW S128x1 x) v293
  have cst_91 : F .f32 := Scalar.ofBits .f32 0x7E800000#32
  have v297 : FVec F S128x1 .f32 := broadcast S128x1 cst_91
  have cst_90 : F .f32 := Scalar.ofBits .f32 0x3F000000#32
  have v295 : FVec F S128x1 .f32 := broadcast S128x1 cst_90
  have v296 : FVec F S128x1 .f32 := divf v295 (PW S128x1 x)
  have v298 : FVec F S128x1 .f32 := select v294 v297 v296
  have v300 : FVec F S128x1 .f32 := mulf v299 v298
  v300

/-- The codes of one head. -/
def CODES (u : FVec F S128x256 .f32) (w : FVec F S128x1 .f32) : FVec F S1x1x128x256 .fp8e4m3 :=
  have v301 : FVec F S128x256 .f32 := broadcastTo S128x256 w broadcasts_S128x1_S128x256
  have v302 : FVec F S128x256 .f32 := mulf u v301
  have cst_92 : F .f32 := Scalar.ofBits .f32 0xC3E00000#32
  have v303 : FVec F S128x256 .f32 := broadcast S128x256 cst_92
  have v304 : FVec F S128x256 .f32 := maximumf v302 v303
  have cst_93 : F .f32 := Scalar.ofBits .f32 0x43E00000#32
  have v305 : FVec F S128x256 .f32 := broadcast S128x256 cst_93
  have v306 : FVec F S128x256 .f32 := minimumf v304 v305
  have v307 : FVec F S128x256 .fp8e4m3 := truncf .fp8e4m3 v306 bitsLt_fp8e4m3_f32
  have v310 : FVec F S1x1x128x256 .fp8e4m3 := shapeCast S1x1x128x256 v307 shapeCasts_S128x256_S1x1x128x256
  v310

/-- The row maxima in every lane. -/
def XST (x : FVec F S128x1 .f32) : FVec F S128x128 .f32 :=
  have v311 : FVec F S128x1 .f32 := shapeCast S128x1 x shapeCasts_S128x1_S128x1
  have v312 : FVec F S128x128 .f32 := broadcastTo S128x128 v311 broadcasts_S128x1_S128x128
  have v317 : FVec F S128x128 .f32 := shapeCast S128x128 v312 shapeCasts_S128x128_S128x128
  v317

/-- The lane of one head. -/
def SEL (h : BitVec 32) : IVec S128x128 1 :=
  have v313 : IVec S128x128 32 := broadcast S128x128 h
  have v314 : IVec S128x128 1 := cmpi .eq LANE v313
  have v318 : IVec S128x128 1 := shapeCast S128x128 v314 shapeCasts_S128x128_S128x128
  v318

/-- The new scales. -/
def SCALES (y : Vec F S128x128 .f32) : FVec F S4x8x128 .f32 :=
  have cst_1060 : F .f32 := Scalar.ofBits .f32 0x00000000#32
  have v2846 : FVec F S32x128 .f32 := broadcast S32x128 cst_1060
  have v2847 : IVec S32x128 1 := cmpf .oeq (PW S32x128 (extractStridedSlice S32x128 ![0, 0] (transpose S128x128 [1, 0] y transposes_S128x128_p1_0_S128x128) slices_S128x128_o0_0_S32x128)) v2846
  have cst_1062 : F .f32 := Scalar.ofBits .f32 0x3F800000#32
  have v2850 : FVec F S32x128 .f32 := broadcast S32x128 cst_1062
  have cst_1061 : F .f32 := Scalar.ofBits .f32 0x40000000#32
  have v2848 : FVec F S32x128 .f32 := broadcast S32x128 cst_1061
  have v2849 : FVec F S32x128 .f32 := mulf (PW S32x128 (extractStridedSlice S32x128 ![0, 0] (transpose S128x128 [1, 0] y transposes_S128x128_p1_0_S128x128) slices_S128x128_o0_0_S32x128)) v2848
  have v2851 : FVec F S32x128 .f32 := select v2847 v2850 v2849
  have v2852 : FVec F S4x8x128 .f32 := shapeCast S4x8x128 v2851 shapeCasts_S32x128_S4x8x128
  v2852

/-- The decay's power of two. -/
def AP (g : Vec F S1x1x8 .f32) : FVec F S8x1 .f32 := PW S8x1 (EA g)

/-- The decay's mantissa: one where the decay is its own power of two. -/
def AM (g : Vec F S1x1x8 .f32) : FVec F S8x1 .f32 :=
  select (cmpf .oeq (EA g) (AP g)) (broadcast S8x1 (Scalar.ofBits .f32 0x3F800000#32 : F .f32)) (divf (EA g) (AP g))

/-- The projections of one batch element. -/
def PB (q k : Vec F S1x4x128 .bf16) (sc : Vec F S1x8x128 .f32) (c0 c2 c4 c6 : Vec F S1x2x128x256 .fp8e4m3) : FVec F S16x256 .f32 :=
  PROJ (LHS (ROWS (KN k)) (ROWS (QN q)) (SCL sc)) c0 c2 c4 c6

/-- What the step writes for one batch element. -/
def DB (q k : Vec F S1x4x128 .bf16) (v : Vec F S1x8x256 .bf16) (g bt : Vec F S1x1x8 .f32) (sc : Vec F S1x8x128 .f32)
    (c0 c2 c4 c6 : Vec F S1x2x128x256 .fp8e4m3) : FVec F S8x256 .f32 :=
  DELTA (EA g) (COL bt) (PB q k sc c0 c2 c4 c6) v

/-- The outputs of one batch element, from its loads. -/
def OB (q k : Vec F S1x4x128 .bf16) (v : Vec F S1x8x256 .bf16) (g bt : Vec F S1x1x8 .f32) (sc : Vec F S1x8x128 .f32)
    (c0 c2 c4 c6 : Vec F S1x2x128x256 .fp8e4m3) : FVec F S1x8x256 .bf16 :=
  OUT (EA g) (QK (ROWS (QN q)) (ROWS (KN k))) (PB q k sc c0 c2 c4 c6) (DB q k v g bt sc c0 c2 c4 c6)

/-- One head's new state over the mantissa of the decay, from the loads. -/
def UB (q k : Vec F S1x4x128 .bf16) (v : Vec F S1x8x256 .bf16) (g bt : Vec F S1x1x8 .f32) (sc : Vec F S1x8x128 .f32)
    (c0 c2 c4 c6 : Vec F S1x2x128x256 .fp8e4m3) (c : Vec F S1x1x128x256 .fp8e4m3)
    (h : ℕ) (hw : BitVec 32) (hs : S8x128.Slices ![h, 0] S1x128) : FVec F S128x256 .f32 :=
  U (extractStridedSlice S1x128 ![h, 0] (SC2 (SCL sc) (AP g)) hs) (KCOLS (ROWS (KN k)))
    (LIMBS (DB q k v g bt sc c0 c2 c4 c6) (AM g)) c hw

/-- One head's mantissa of the decay. -/
def MB (g : Vec F S1x1x8 .f32) (h : ℕ) (hm : S8x1.Slices ![h, 0] S1x1) : FVec F S1x1 .f32 :=
  extractStridedSlice S1x1 ![h, 0] (AM g) hm

/-- One head's row maxima. -/
def XB (q k : Vec F S1x4x128 .bf16) (v : Vec F S1x8x256 .bf16) (g bt : Vec F S1x1x8 .f32) (sc : Vec F S1x8x128 .f32)
    (c0 c2 c4 c6 : Vec F S1x2x128x256 .fp8e4m3) (c : Vec F S1x1x128x256 .fp8e4m3)
    (h : ℕ) (hw : BitVec 32) (hs : S8x128.Slices ![h, 0] S1x128) (hm : S8x1.Slices ![h, 0] S1x1) : FVec F S128x1 .f32 :=
  X (UB q k v g bt sc c0 c2 c4 c6 c h hw hs) (MB g h hm)

/-- One head's new codes. -/
def CB (q k : Vec F S1x4x128 .bf16) (v : Vec F S1x8x256 .bf16) (g bt : Vec F S1x1x8 .f32) (sc : Vec F S1x8x128 .f32)
    (c0 c2 c4 c6 : Vec F S1x2x128x256 .fp8e4m3) (c : Vec F S1x1x128x256 .fp8e4m3)
    (h : ℕ) (hw : BitVec 32) (hs : S8x128.Slices ![h, 0] S1x128) (hm : S8x1.Slices ![h, 0] S1x1) : FVec F S1x1x128x256 .fp8e4m3 :=
  CODES (UB q k v g bt sc c0 c2 c4 c6 c h hw hs) (INV (XB q k v g bt sc c0 c2 c4 c6 c h hw hs hm) (MB g h hm))

end Cert.Kernel.Val

end
-- ==== Proof.Out.lean ====
module

public import proofs.«01_k».proof.Proof.Body
public import Idealize.ShloMosaic.Lib.Pointwise

@[expose] public section

set_option maxRecDepth 16384

noncomputable section

namespace Cert.Kernel.Val

open Idealize.ShloMosaic Idealize.ShloMosaic.TcCoe
open Cert.Kernel.Facts₀ Cert.Kernel.Facts

variable {F : FTy → Type} [FloatOps F]

/-! # The kernel's three results on one block, as functions of the seven input blocks -/

/-- The loads and slices of a block stay inside it. -/
theorem inbQ : ∀ (b : Fin 4) (a : Fin 3), (![(b : ℕ), 0, 0] : Fin 3 → ℕ) a + S1x4x128.size a ≤ S4x4x128.size a := by decide +kernel
theorem inbV : ∀ (b : Fin 4) (a : Fin 3), (![(b : ℕ), 0, 0] : Fin 3 → ℕ) a + S1x8x256.size a ≤ S4x8x256.size a := by decide +kernel
theorem inbG : ∀ (b : Fin 4) (a : Fin 3), (![(b : ℕ), 0, 0] : Fin 3 → ℕ) a + S1x1x8.size a ≤ S4x1x8.size a := by decide +kernel
theorem inbS : ∀ (b : Fin 4) (a : Fin 3), (![(b : ℕ), 0, 0] : Fin 3 → ℕ) a + S1x8x128.size a ≤ S4x8x128.size a := by decide +kernel
theorem inbP : ∀ (b : Fin 4) (p : Fin 7) (a : Fin 4), (![(b : ℕ), (p : ℕ), 0, 0] : Fin 4 → ℕ) a + S1x2x128x256.size a ≤ S4x8x128x256.size a := by decide +kernel
theorem inbC : ∀ (b : Fin 4) (h : Fin 8) (a : Fin 4), (![(b : ℕ), (h : ℕ), 0, 0] : Fin 4 → ℕ) a + S1x1x128x256.size a ≤ S4x8x128x256.size a := by decide +kernel
theorem slS : ∀ h : Fin 8, S8x128.Slices ![(h : ℕ), 0] S1x128 := by decide +kernel
theorem slM : ∀ h : Fin 8, S8x1.Slices ![(h : ℕ), 0] S1x1 := by decide +kernel

/-- The queries, or keys, of one batch element. -/
def LDQ (x : Vec F S4x4x128 .bf16) (b : Fin 4) : Vec F S1x4x128 .bf16 := View.ld x (Rect.unit (s := S4x4x128) ![(b : ℕ), 0, 0] S1x4x128.size (inbQ b))
/-- The values of one batch element. -/
def LDV (x : Vec F S4x8x256 .bf16) (b : Fin 4) : Vec F S1x8x256 .bf16 := View.ld x (Rect.unit (s := S4x8x256) ![(b : ℕ), 0, 0] S1x8x256.size (inbV b))
/-- The gates of one batch element. -/
def LDG (x : Vec F S4x1x8 .f32) (b : Fin 4) : Vec F S1x1x8 .f32 := View.ld x (Rect.unit (s := S4x1x8) ![(b : ℕ), 0, 0] S1x1x8.size (inbG b))
/-- The scales of one batch element. -/
def LDS (x : Vec F S4x8x128 .f32) (b : Fin 4) : Vec F S1x8x128 .f32 := View.ld x (Rect.unit (s := S4x8x128) ![(b : ℕ), 0, 0] S1x8x128.size (inbS b))
/-- The codes of two heads of one batch element. -/
def LDP (x : Vec F S4x8x128x256 .fp8e4m3) (b : Fin 4) (p : Fin 7) : Vec F S1x2x128x256 .fp8e4m3 := View.ld x (Rect.unit (s := S4x8x128x256) ![(b : ℕ), (p : ℕ), 0, 0] S1x2x128x256.size (inbP b p))
/-- The codes of one head of one batch element. -/
def LDC (x : Vec F S4x8x128x256 .fp8e4m3) (b : Fin 4) (h : Fin 8) : Vec F S1x1x128x256 .fp8e4m3 := View.ld x (Rect.unit (s := S4x8x128x256) ![(b : ℕ), (h : ℕ), 0, 0] S1x1x128x256.size (inbC b h))

section
variable (x0 x1 : Vec F S4x4x128 .bf16) (x2 : Vec F S4x8x256 .bf16) (x3 x4 : Vec F S4x1x8 .f32) (x5 : Vec F S4x8x128x256 .fp8e4m3) (x6 : Vec F S4x8x128 .f32)

/-- The outputs of batch element `b` of the block. -/
def OBx (b : Fin 4) : FVec F S1x8x256 .bf16 :=
  OB (LDQ x0 b) (LDQ x1 b) (LDV x2 b) (LDG x3 b) (LDG x4 b) (LDS x6 b) (LDP x5 b 0) (LDP x5 b 2) (LDP x5 b 4) (LDP x5 b 6)

/-- The row maxima of head `h` of batch element `b`. -/
def XBx (b : Fin 4) (h : Fin 8) : FVec F S128x1 .f32 :=
  XB (LDQ x0 b) (LDQ x1 b) (LDV x2 b) (LDG x3 b) (LDG x4 b) (LDS x6 b) (LDP x5 b 0) (LDP x5 b 2) (LDP x5 b 4) (LDP x5 b 6) (LDC x5 b h)
    h (BitVec.ofNat 32 h) (slS h) (slM h)

/-- The new codes of head `h` of batch element `b`. -/
def CBx (b : Fin 4) (h : Fin 8) : FVec F S1x1x128x256 .fp8e4m3 :=
  CB (LDQ x0 b) (LDQ x1 b) (LDV x2 b) (LDG x3 b) (LDG x4 b) (LDS x6 b) (LDP x5 b 0) (LDP x5 b 2) (LDP x5 b 4) (LDP x5 b 6) (LDC x5 b h)
    h (BitVec.ofNat 32 h) (slS h) (slM h)

/-- The outputs of a block. -/
def O7 : Vec F S4x8x256 .bf16 := fun j => OBx x0 x1 x2 x3 x4 x5 x6 (j 0) (ix3 0 (j 1) (j 2))

/-- The new codes of a block. -/
def O8 : Vec F S4x8x128x256 .fp8e4m3 := fun j => CBx x0 x1 x2 x3 x4 x5 x6 (j 0) (j 1) (ix4 0 0 (j 2) (j 3))

/-- The buffer of row maxima: head `h` of batch element `b` in lane `8 b + h`. -/
def Y9 : Vec F S128x128 .f32 := fun j =>
  if hl : (j 1 : ℕ) < 32 then XBx x0 x1 x2 x3 x4 x5 x6 ⟨(j 1 : ℕ) / 8, by omega⟩ ⟨(j 1 : ℕ) % 8, Nat.mod_lt _ (by decide)⟩ (ix2 (j 0) 0)
  else Scalar.ofBits .f32 0x00000000#32

/-- The new scales of a block. -/
def O9 : Vec F S4x8x128 .f32 := SCALES (Y9 x0 x1 x2 x3 x4 x5 x6)

end

end Cert.Kernel.Val

end
-- ==== Proof.Pieces7.lean ====
module

public import proofs.«01_k».proof.Proof.Body

@[expose] public section

set_option maxRecDepth 16384

noncomputable section

namespace Cert.Kernel.Val

open Idealize.ShloMosaic Idealize.ShloMosaic.TcCoe
open Cert.Kernel.Facts₀ Cert.Kernel.Facts

variable {F : FTy → Type} [FloatOps F]

set_option maxHeartbeats 4000000 in
/-- What the body stores into the first output, in order. -/
theorem L7_eq (c : Dev nD) (i : grid0.Coords) (arg1 : Memref sig .tc .vmem S4x4x128 .bf16) (harg1 : arg1.IsWhole) (arg2 : Memref sig .tc .vmem S4x4x128 .bf16) (harg2 : arg2.IsWhole) (arg3 : Memref sig .tc .vmem S4x8x256 .bf16) (harg3 : arg3.IsWhole) (arg4 : Memref sig .tc .vmem S4x1x8 .f32) (harg4 : arg4.IsWhole) (arg5 : Memref sig .tc .vmem S4x1x8 .f32) (harg5 : arg5.IsWhole) (arg6 : Memref sig .tc .vmem S4x8x128x256 .fp8e4m3) (harg6 : arg6.IsWhole) (arg7 : Memref sig .tc .vmem S4x8x128 .f32) (harg7 : arg7.IsWhole) (arg8 : Memref sig .tc .vmem S4x8x256 .bf16) (harg8 : arg8.IsWhole) (arg9 : Memref sig .tc .vmem S4x8x128x256 .fp8e4m3) (harg9 : arg9.IsWhole) (arg10 : Memref sig .tc .vmem S4x8x128 .f32) (harg10 : arg10.IsWhole) (arg11 : Memref sig .tc .vmem S128x128 .f32) (harg11 : arg11.IsWhole)
    (x0 : Vec F S4x4x128 .bf16) (x1 : Vec F S4x4x128 .bf16) (x2 : Vec F S4x8x256 .bf16) (x3 : Vec F S4x1x8 .f32) (x4 : Vec F S4x1x8 .f32) (x5 : Vec F S4x8x128x256 .fp8e4m3) (x6 : Vec F S4x8x128 .f32) :
    (kernelRunV c i arg1 harg1 arg2 harg2 arg3 harg3 arg4 harg4 arg5 harg5 arg6 harg6 arg7 harg7 arg8 harg8 arg9 harg9 arg10 harg10 arg11 harg11 x0 x1 x2 x3 x4 x5 x6).1 = [⟨Rect.unit (s := S4x8x256) ![3, 0, 0] S1x8x256.size inb_S4x8x256_S1x8x256_3_0_0, OB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))⟩,
      ⟨Rect.unit (s := S4x8x256) ![2, 0, 0] S1x8x256.size inb_S4x8x256_S1x8x256_2_0_0, OB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))⟩,
      ⟨Rect.unit (s := S4x8x256) ![1, 0, 0] S1x8x256.size inb_S4x8x256_S1x8x256_1_0_0, OB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))⟩,
      ⟨Rect.unit (s := S4x8x256) ![0, 0, 0] S1x8x256.size inb_S4x8x256_S1x8x256_0_0_0, OB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))⟩] := rfl

end Cert.Kernel.Val

end
-- ==== Proof.Pieces8.lean ====
module

public import proofs.«01_k».proof.Proof.Body

@[expose] public section

set_option maxRecDepth 16384

noncomputable section

namespace Cert.Kernel.Val

open Idealize.ShloMosaic Idealize.ShloMosaic.TcCoe
open Cert.Kernel.Facts₀ Cert.Kernel.Facts

variable {F : FTy → Type} [FloatOps F]

/-- What the body stores into the codes, in order. -/
theorem L8_eq (c : Dev nD) (i : grid0.Coords) (arg1 : Memref sig .tc .vmem S4x4x128 .bf16) (harg1 : arg1.IsWhole) (arg2 : Memref sig .tc .vmem S4x4x128 .bf16) (harg2 : arg2.IsWhole) (arg3 : Memref sig .tc .vmem S4x8x256 .bf16) (harg3 : arg3.IsWhole) (arg4 : Memref sig .tc .vmem S4x1x8 .f32) (harg4 : arg4.IsWhole) (arg5 : Memref sig .tc .vmem S4x1x8 .f32) (harg5 : arg5.IsWhole) (arg6 : Memref sig .tc .vmem S4x8x128x256 .fp8e4m3) (harg6 : arg6.IsWhole) (arg7 : Memref sig .tc .vmem S4x8x128 .f32) (harg7 : arg7.IsWhole) (arg8 : Memref sig .tc .vmem S4x8x256 .bf16) (harg8 : arg8.IsWhole) (arg9 : Memref sig .tc .vmem S4x8x128x256 .fp8e4m3) (harg9 : arg9.IsWhole) (arg10 : Memref sig .tc .vmem S4x8x128 .f32) (harg10 : arg10.IsWhole) (arg11 : Memref sig .tc .vmem S128x128 .f32) (harg11 : arg11.IsWhole)
    (x0 : Vec F S4x4x128 .bf16) (x1 : Vec F S4x4x128 .bf16) (x2 : Vec F S4x8x256 .bf16) (x3 : Vec F S4x1x8 .f32) (x4 : Vec F S4x1x8 .f32) (x5 : Vec F S4x8x128x256 .fp8e4m3) (x6 : Vec F S4x8x128 .f32) :
    (kernelRunV c i arg1 harg1 arg2 harg2 arg3 harg3 arg4 harg4 arg5 harg5 arg6 harg6 arg7 harg7 arg8 harg8 arg9 harg9 arg10 harg10 arg11 harg11 x0 x1 x2 x3 x4 x5 x6).2.1 = [⟨Rect.unit (s := S4x8x128x256) ![3, 7, 0, 0] S1x1x128x256.size inb_S4x8x128x256_S1x1x128x256_3_7_0_0, CB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 7, 0, 0] S1x1x128x256.size inb_S4x8x128x256_S1x1x128x256_3_7_0_0).toLoadRect (harg6.unread x5)) 7 7#32 slices_S8x128_o7_0_S1x128 slices_S8x1_o7_0_S1x1⟩,
      ⟨Rect.unit (s := S4x8x128x256) ![3, 6, 0, 0] S1x1x128x256.size inb_S4x8x128x256_S1x1x128x256_3_6_0_0, CB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 6, 0, 0] S1x1x128x256.size inb_S4x8x128x256_S1x1x128x256_3_6_0_0).toLoadRect (harg6.unread x5)) 6 6#32 slices_S8x128_o6_0_S1x128 slices_S8x1_o6_0_S1x1⟩,
      ⟨Rect.unit (s := S4x8x128x256) ![3, 5, 0, 0] S1x1x128x256.size inb_S4x8x128x256_S1x1x128x256_3_5_0_0, CB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 5, 0, 0] S1x1x128x256.size inb_S4x8x128x256_S1x1x128x256_3_5_0_0).toLoadRect (harg6.unread x5)) 5 5#32 slices_S8x128_o5_0_S1x128 slices_S8x1_o5_0_S1x1⟩,
      ⟨Rect.unit (s := S4x8x128x256) ![3, 4, 0, 0] S1x1x128x256.size inb_S4x8x128x256_S1x1x128x256_3_4_0_0, CB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 4, 0, 0] S1x1x128x256.size inb_S4x8x128x256_S1x1x128x256_3_4_0_0).toLoadRect (harg6.unread x5)) 4 4#32 slices_S8x128_o4_0_S1x128 slices_S8x1_o4_0_S1x1⟩,
      ⟨Rect.unit (s := S4x8x128x256) ![3, 3, 0, 0] S1x1x128x256.size inb_S4x8x128x256_S1x1x128x256_3_3_0_0, CB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 3, 0, 0] S1x1x128x256.size inb_S4x8x128x256_S1x1x128x256_3_3_0_0).toLoadRect (harg6.unread x5)) 3 3#32 slices_S8x128_o3_0_S1x128 slices_S8x1_o3_0_S1x1⟩,
      ⟨Rect.unit (s := S4x8x128x256) ![3, 2, 0, 0] S1x1x128x256.size inb_S4x8x128x256_S1x1x128x256_3_2_0_0, CB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 2, 0, 0] S1x1x128x256.size inb_S4x8x128x256_S1x1x128x256_3_2_0_0).toLoadRect (harg6.unread x5)) 2 2#32 slices_S8x128_o2_0_S1x128 slices_S8x1_o2_0_S1x1⟩,
      ⟨Rect.unit (s := S4x8x128x256) ![3, 1, 0, 0] S1x1x128x256.size inb_S4x8x128x256_S1x1x128x256_3_1_0_0, CB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 1, 0, 0] S1x1x128x256.size inb_S4x8x128x256_S1x1x128x256_3_1_0_0).toLoadRect (harg6.unread x5)) 1 1#32 slices_S8x128_o1_0_S1x128 slices_S8x1_o1_0_S1x1⟩,
      ⟨Rect.unit (s := S4x8x128x256) ![3, 0, 0, 0] S1x1x128x256.size inb_S4x8x128x256_S1x1x128x256_3_0_0_0, CB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 0, 0, 0] S1x1x128x256.size inb_S4x8x128x256_S1x1x128x256_3_0_0_0).toLoadRect (harg6.unread x5)) 0 0#32 slices_S8x128_o0_0_S1x128 slices_S8x1_o0_0_S1x1⟩,
      ⟨Rect.unit (s := S4x8x128x256) ![2, 7, 0, 0] S1x1x128x256.size inb_S4x8x128x256_S1x1x128x256_2_7_0_0, CB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 7, 0, 0] S1x1x128x256.size inb_S4x8x128x256_S1x1x128x256_2_7_0_0).toLoadRect (harg6.unread x5)) 7 7#32 slices_S8x128_o7_0_S1x128 slices_S8x1_o7_0_S1x1⟩,
      ⟨Rect.unit (s := S4x8x128x256) ![2, 6, 0, 0] S1x1x128x256.size inb_S4x8x128x256_S1x1x128x256_2_6_0_0, CB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 6, 0, 0] S1x1x128x256.size inb_S4x8x128x256_S1x1x128x256_2_6_0_0).toLoadRect (harg6.unread x5)) 6 6#32 slices_S8x128_o6_0_S1x128 slices_S8x1_o6_0_S1x1⟩,
      ⟨Rect.unit (s := S4x8x128x256) ![2, 5, 0, 0] S1x1x128x256.size inb_S4x8x128x256_S1x1x128x256_2_5_0_0, CB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 5, 0, 0] S1x1x128x256.size inb_S4x8x128x256_S1x1x128x256_2_5_0_0).toLoadRect (harg6.unread x5)) 5 5#32 slices_S8x128_o5_0_S1x128 slices_S8x1_o5_0_S1x1⟩,
      ⟨Rect.unit (s := S4x8x128x256) ![2, 4, 0, 0] S1x1x128x256.size inb_S4x8x128x256_S1x1x128x256_2_4_0_0, CB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 4, 0, 0] S1x1x128x256.size inb_S4x8x128x256_S1x1x128x256_2_4_0_0).toLoadRect (harg6.unread x5)) 4 4#32 slices_S8x128_o4_0_S1x128 slices_S8x1_o4_0_S1x1⟩,
      ⟨Rect.unit (s := S4x8x128x256) ![2, 3, 0, 0] S1x1x128x256.size inb_S4x8x128x256_S1x1x128x256_2_3_0_0, CB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 3, 0, 0] S1x1x128x256.size inb_S4x8x128x256_S1x1x128x256_2_3_0_0).toLoadRect (harg6.unread x5)) 3 3#32 slices_S8x128_o3_0_S1x128 slices_S8x1_o3_0_S1x1⟩,
      ⟨Rect.unit (s := S4x8x128x256) ![2, 2, 0, 0] S1x1x128x256.size inb_S4x8x128x256_S1x1x128x256_2_2_0_0, CB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 2, 0, 0] S1x1x128x256.size inb_S4x8x128x256_S1x1x128x256_2_2_0_0).toLoadRect (harg6.unread x5)) 2 2#32 slices_S8x128_o2_0_S1x128 slices_S8x1_o2_0_S1x1⟩,
      ⟨Rect.unit (s := S4x8x128x256) ![2, 1, 0, 0] S1x1x128x256.size inb_S4x8x128x256_S1x1x128x256_2_1_0_0, CB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 1, 0, 0] S1x1x128x256.size inb_S4x8x128x256_S1x1x128x256_2_1_0_0).toLoadRect (harg6.unread x5)) 1 1#32 slices_S8x128_o1_0_S1x128 slices_S8x1_o1_0_S1x1⟩,
      ⟨Rect.unit (s := S4x8x128x256) ![2, 0, 0, 0] S1x1x128x256.size inb_S4x8x128x256_S1x1x128x256_2_0_0_0, CB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 0, 0, 0] S1x1x128x256.size inb_S4x8x128x256_S1x1x128x256_2_0_0_0).toLoadRect (harg6.unread x5)) 0 0#32 slices_S8x128_o0_0_S1x128 slices_S8x1_o0_0_S1x1⟩,
      ⟨Rect.unit (s := S4x8x128x256) ![1, 7, 0, 0] S1x1x128x256.size inb_S4x8x128x256_S1x1x128x256_1_7_0_0, CB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 7, 0, 0] S1x1x128x256.size inb_S4x8x128x256_S1x1x128x256_1_7_0_0).toLoadRect (harg6.unread x5)) 7 7#32 slices_S8x128_o7_0_S1x128 slices_S8x1_o7_0_S1x1⟩,
      ⟨Rect.unit (s := S4x8x128x256) ![1, 6, 0, 0] S1x1x128x256.size inb_S4x8x128x256_S1x1x128x256_1_6_0_0, CB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 6, 0, 0] S1x1x128x256.size inb_S4x8x128x256_S1x1x128x256_1_6_0_0).toLoadRect (harg6.unread x5)) 6 6#32 slices_S8x128_o6_0_S1x128 slices_S8x1_o6_0_S1x1⟩,
      ⟨Rect.unit (s := S4x8x128x256) ![1, 5, 0, 0] S1x1x128x256.size inb_S4x8x128x256_S1x1x128x256_1_5_0_0, CB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 5, 0, 0] S1x1x128x256.size inb_S4x8x128x256_S1x1x128x256_1_5_0_0).toLoadRect (harg6.unread x5)) 5 5#32 slices_S8x128_o5_0_S1x128 slices_S8x1_o5_0_S1x1⟩,
      ⟨Rect.unit (s := S4x8x128x256) ![1, 4, 0, 0] S1x1x128x256.size inb_S4x8x128x256_S1x1x128x256_1_4_0_0, CB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 4, 0, 0] S1x1x128x256.size inb_S4x8x128x256_S1x1x128x256_1_4_0_0).toLoadRect (harg6.unread x5)) 4 4#32 slices_S8x128_o4_0_S1x128 slices_S8x1_o4_0_S1x1⟩,
      ⟨Rect.unit (s := S4x8x128x256) ![1, 3, 0, 0] S1x1x128x256.size inb_S4x8x128x256_S1x1x128x256_1_3_0_0, CB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 3, 0, 0] S1x1x128x256.size inb_S4x8x128x256_S1x1x128x256_1_3_0_0).toLoadRect (harg6.unread x5)) 3 3#32 slices_S8x128_o3_0_S1x128 slices_S8x1_o3_0_S1x1⟩,
      ⟨Rect.unit (s := S4x8x128x256) ![1, 2, 0, 0] S1x1x128x256.size inb_S4x8x128x256_S1x1x128x256_1_2_0_0, CB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 2, 0, 0] S1x1x128x256.size inb_S4x8x128x256_S1x1x128x256_1_2_0_0).toLoadRect (harg6.unread x5)) 2 2#32 slices_S8x128_o2_0_S1x128 slices_S8x1_o2_0_S1x1⟩,
      ⟨Rect.unit (s := S4x8x128x256) ![1, 1, 0, 0] S1x1x128x256.size inb_S4x8x128x256_S1x1x128x256_1_1_0_0, CB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 1, 0, 0] S1x1x128x256.size inb_S4x8x128x256_S1x1x128x256_1_1_0_0).toLoadRect (harg6.unread x5)) 1 1#32 slices_S8x128_o1_0_S1x128 slices_S8x1_o1_0_S1x1⟩,
      ⟨Rect.unit (s := S4x8x128x256) ![1, 0, 0, 0] S1x1x128x256.size inb_S4x8x128x256_S1x1x128x256_1_0_0_0, CB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 0, 0, 0] S1x1x128x256.size inb_S4x8x128x256_S1x1x128x256_1_0_0_0).toLoadRect (harg6.unread x5)) 0 0#32 slices_S8x128_o0_0_S1x128 slices_S8x1_o0_0_S1x1⟩,
      ⟨Rect.unit (s := S4x8x128x256) ![0, 7, 0, 0] S1x1x128x256.size inb_S4x8x128x256_S1x1x128x256_0_7_0_0, CB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 7, 0, 0] S1x1x128x256.size inb_S4x8x128x256_S1x1x128x256_0_7_0_0).toLoadRect (harg6.unread x5)) 7 7#32 slices_S8x128_o7_0_S1x128 slices_S8x1_o7_0_S1x1⟩,
      ⟨Rect.unit (s := S4x8x128x256) ![0, 6, 0, 0] S1x1x128x256.size inb_S4x8x128x256_S1x1x128x256_0_6_0_0, CB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 6, 0, 0] S1x1x128x256.size inb_S4x8x128x256_S1x1x128x256_0_6_0_0).toLoadRect (harg6.unread x5)) 6 6#32 slices_S8x128_o6_0_S1x128 slices_S8x1_o6_0_S1x1⟩,
      ⟨Rect.unit (s := S4x8x128x256) ![0, 5, 0, 0] S1x1x128x256.size inb_S4x8x128x256_S1x1x128x256_0_5_0_0, CB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 5, 0, 0] S1x1x128x256.size inb_S4x8x128x256_S1x1x128x256_0_5_0_0).toLoadRect (harg6.unread x5)) 5 5#32 slices_S8x128_o5_0_S1x128 slices_S8x1_o5_0_S1x1⟩,
      ⟨Rect.unit (s := S4x8x128x256) ![0, 4, 0, 0] S1x1x128x256.size inb_S4x8x128x256_S1x1x128x256_0_4_0_0, CB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 4, 0, 0] S1x1x128x256.size inb_S4x8x128x256_S1x1x128x256_0_4_0_0).toLoadRect (harg6.unread x5)) 4 4#32 slices_S8x128_o4_0_S1x128 slices_S8x1_o4_0_S1x1⟩,
      ⟨Rect.unit (s := S4x8x128x256) ![0, 3, 0, 0] S1x1x128x256.size inb_S4x8x128x256_S1x1x128x256_0_3_0_0, CB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 3, 0, 0] S1x1x128x256.size inb_S4x8x128x256_S1x1x128x256_0_3_0_0).toLoadRect (harg6.unread x5)) 3 3#32 slices_S8x128_o3_0_S1x128 slices_S8x1_o3_0_S1x1⟩,
      ⟨Rect.unit (s := S4x8x128x256) ![0, 2, 0, 0] S1x1x128x256.size inb_S4x8x128x256_S1x1x128x256_0_2_0_0, CB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 2, 0, 0] S1x1x128x256.size inb_S4x8x128x256_S1x1x128x256_0_2_0_0).toLoadRect (harg6.unread x5)) 2 2#32 slices_S8x128_o2_0_S1x128 slices_S8x1_o2_0_S1x1⟩,
      ⟨Rect.unit (s := S4x8x128x256) ![0, 1, 0, 0] S1x1x128x256.size inb_S4x8x128x256_S1x1x128x256_0_1_0_0, CB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 1, 0, 0] S1x1x128x256.size inb_S4x8x128x256_S1x1x128x256_0_1_0_0).toLoadRect (harg6.unread x5)) 1 1#32 slices_S8x128_o1_0_S1x128 slices_S8x1_o1_0_S1x1⟩,
      ⟨Rect.unit (s := S4x8x128x256) ![0, 0, 0, 0] S1x1x128x256.size inb_S4x8x128x256_S1x1x128x256_0_0_0_0, CB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 0, 0, 0] S1x1x128x256.size inb_S4x8x128x256_S1x1x128x256_0_0_0_0).toLoadRect (harg6.unread x5)) 0 0#32 slices_S8x128_o0_0_S1x128 slices_S8x1_o0_0_S1x1⟩] := rfl

end Cert.Kernel.Val

end
-- ==== Proof.Pieces9.lean ====
module

public import proofs.«01_k».proof.Proof.Body

@[expose] public section

set_option maxRecDepth 16384

noncomputable section

namespace Cert.Kernel.Val

open Idealize.ShloMosaic Idealize.ShloMosaic.TcCoe
open Cert.Kernel.Facts₀ Cert.Kernel.Facts

variable {F : FTy → Type} [FloatOps F]

/-! # The scratch buffer of row maxima after its thirty-two masked stores -/

/-- The buffer after storing the row maxima `x` in lane `h`. -/
def PUT (arg11 : Memref sig .tc .vmem S128x128 .f32) (f : arg11.view.ty.Contents (Elt F)) (x : FVec F S128x1 .f32) (h : BitVec 32) : arg11.view.ty.Contents (Elt F) :=
  View.write (Elt F) (arg11.access (Rect.unit (s := S128x128) ![0, 0] S128x128.size inb_S128x128_S128x128_0_0)) f (XST x) (IVec.on (SEL h))

/-- What the body stores into the scales: the powers of the row maxima it has gathered. -/
theorem L9_eq (c : Dev nD) (i : grid0.Coords) (arg1 : Memref sig .tc .vmem S4x4x128 .bf16) (harg1 : arg1.IsWhole) (arg2 : Memref sig .tc .vmem S4x4x128 .bf16) (harg2 : arg2.IsWhole) (arg3 : Memref sig .tc .vmem S4x8x256 .bf16) (harg3 : arg3.IsWhole) (arg4 : Memref sig .tc .vmem S4x1x8 .f32) (harg4 : arg4.IsWhole) (arg5 : Memref sig .tc .vmem S4x1x8 .f32) (harg5 : arg5.IsWhole) (arg6 : Memref sig .tc .vmem S4x8x128x256 .fp8e4m3) (harg6 : arg6.IsWhole) (arg7 : Memref sig .tc .vmem S4x8x128 .f32) (harg7 : arg7.IsWhole) (arg8 : Memref sig .tc .vmem S4x8x256 .bf16) (harg8 : arg8.IsWhole) (arg9 : Memref sig .tc .vmem S4x8x128x256 .fp8e4m3) (harg9 : arg9.IsWhole) (arg10 : Memref sig .tc .vmem S4x8x128 .f32) (harg10 : arg10.IsWhole) (arg11 : Memref sig .tc .vmem S128x128 .f32) (harg11 : arg11.IsWhole)
    (x0 : Vec F S4x4x128 .bf16) (x1 : Vec F S4x4x128 .bf16) (x2 : Vec F S4x8x256 .bf16) (x3 : Vec F S4x1x8 .f32) (x4 : Vec F S4x1x8 .f32) (x5 : Vec F S4x8x128x256 .fp8e4m3) (x6 : Vec F S4x8x128 .f32) (ds0 : Vec F S128x128 .f32) :
    (kernelRunV c i arg1 harg1 arg2 harg2 arg3 harg3 arg4 harg4 arg5 harg5 arg6 harg6 arg7 harg7 arg8 harg8 arg9 harg9 arg10 harg10 arg11 harg11 x0 x1 x2 x3 x4 x5 x6).2.2.1 ds0 = [⟨Rect.unit (s := S4x8x128) ![0, 0, 0] S4x8x128.size inb_S4x8x128_S4x8x128_0_0_0,
      SCALES (View.readAt (Elt F) arg11.view (Rect.unit (s := S128x128) ![0, 0] S128x128.size inb_S128x128_S128x128_0_0).toLoadRect (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (harg11.unread ds0) (XB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 0, 0, 0] S1x1x128x256.size inb_S4x8x128x256_S1x1x128x256_0_0_0_0).toLoadRect (harg6.unread x5)) 0 0#32 slices_S8x128_o0_0_S1x128 slices_S8x1_o0_0_S1x1) 0#32) (XB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 1, 0, 0] S1x1x128x256.size inb_S4x8x128x256_S1x1x128x256_0_1_0_0).toLoadRect (harg6.unread x5)) 1 1#32 slices_S8x128_o1_0_S1x128 slices_S8x1_o1_0_S1x1) 1#32) (XB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 2, 0, 0] S1x1x128x256.size inb_S4x8x128x256_S1x1x128x256_0_2_0_0).toLoadRect (harg6.unread x5)) 2 2#32 slices_S8x128_o2_0_S1x128 slices_S8x1_o2_0_S1x1) 2#32) (XB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 3, 0, 0] S1x1x128x256.size inb_S4x8x128x256_S1x1x128x256_0_3_0_0).toLoadRect (harg6.unread x5)) 3 3#32 slices_S8x128_o3_0_S1x128 slices_S8x1_o3_0_S1x1) 3#32) (XB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 4, 0, 0] S1x1x128x256.size inb_S4x8x128x256_S1x1x128x256_0_4_0_0).toLoadRect (harg6.unread x5)) 4 4#32 slices_S8x128_o4_0_S1x128 slices_S8x1_o4_0_S1x1) 4#32) (XB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 5, 0, 0] S1x1x128x256.size inb_S4x8x128x256_S1x1x128x256_0_5_0_0).toLoadRect (harg6.unread x5)) 5 5#32 slices_S8x128_o5_0_S1x128 slices_S8x1_o5_0_S1x1) 5#32) (XB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 6, 0, 0] S1x1x128x256.size inb_S4x8x128x256_S1x1x128x256_0_6_0_0).toLoadRect (harg6.unread x5)) 6 6#32 slices_S8x128_o6_0_S1x128 slices_S8x1_o6_0_S1x1) 6#32) (XB
        (View.readAt (Elt F) arg1.view (Rect.unit (s := S4x4x128) ![0, 0, 0] S1x4x128.size inb_S4x4x128_S1x4x128_0_0_0).toLoadRect (harg1.unread x0))
        (View.readAt (Elt F) arg2.view (Rect.unit (s := S4x4x128) ![0, 0, 0] S1x4x128.size inb_S4x4x128_S1x4x128_0_0_0).toLoadRect (harg2.unread x1))
        (View.readAt (Elt F) arg3.view (Rect.unit (s := S4x8x256) ![0, 0, 0] S1x8x256.size inb_S4x8x256_S1x8x256_0_0_0).toLoadRect (harg3.unread x2))
        (View.readAt (Elt F) arg4.view (Rect.unit (s := S4x1x8) ![0, 0, 0] S1x1x8.size inb_S4x1x8_S1x1x8_0_0_0).toLoadRect (harg4.unread x3))
        (View.readAt (Elt F) arg5.view (Rect.unit (s := S4x1x8) ![0, 0, 0] S1x1x8.size inb_S4x1x8_S1x1x8_0_0_0).toLoadRect (harg5.unread x4))
        (View.readAt (Elt F) arg7.view (Rect.unit (s := S4x8x128) ![0, 0, 0] S1x8x128.size inb_S4x8x128_S1x8x128_0_0_0).toLoadRect (harg7.unread x6))
        (View.readAt (Elt F) arg6.view (Rect.unit (s := S4x8x128x256) ![0, 0, 0, 0] S1x2x128x256.size inb_S4x8x128x256_S1x2x128x256_0_0_0_0).toLoadRect (harg6.unread x5))
        (View.readAt (Elt F) arg6.view (Rect.unit (s := S4x8x128x256) ![0, 2, 0, 0] S1x2x128x256.size inb_S4x8x128x256_S1x2x128x256_0_2_0_0).toLoadRect (harg6.unread x5))
        (View.readAt (Elt F) arg6.view (Rect.unit (s := S4x8x128x256) ![0, 4, 0, 0] S1x2x128x256.size inb_S4x8x128x256_S1x2x128x256_0_4_0_0).toLoadRect (harg6.unread x5))
        (View.readAt (Elt F) arg6.view (Rect.unit (s := S4x8x128x256) ![0, 6, 0, 0] S1x2x128x256.size inb_S4x8x128x256_S1x2x128x256_0_6_0_0).toLoadRect (harg6.unread x5))
        (View.readAt (Elt F) arg6.view (Rect.unit (s := S4x8x128x256) ![0, 7, 0, 0] S1x1x128x256.size inb_S4x8x128x256_S1x1x128x256_0_7_0_0).toLoadRect (harg6.unread x5)) 7 7#32 slices_S8x128_o7_0_S1x128 slices_S8x1_o7_0_S1x1) 7#32) (XB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 0, 0, 0] S1x1x128x256.size inb_S4x8x128x256_S1x1x128x256_1_0_0_0).toLoadRect (harg6.unread x5)) 0 0#32 slices_S8x128_o0_0_S1x128 slices_S8x1_o0_0_S1x1) 8#32) (XB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 1, 0, 0] S1x1x128x256.size inb_S4x8x128x256_S1x1x128x256_1_1_0_0).toLoadRect (harg6.unread x5)) 1 1#32 slices_S8x128_o1_0_S1x128 slices_S8x1_o1_0_S1x1) 9#32) (XB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 2, 0, 0] S1x1x128x256.size inb_S4x8x128x256_S1x1x128x256_1_2_0_0).toLoadRect (harg6.unread x5)) 2 2#32 slices_S8x128_o2_0_S1x128 slices_S8x1_o2_0_S1x1) 10#32) (XB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 3, 0, 0] S1x1x128x256.size inb_S4x8x128x256_S1x1x128x256_1_3_0_0).toLoadRect (harg6.unread x5)) 3 3#32 slices_S8x128_o3_0_S1x128 slices_S8x1_o3_0_S1x1) 11#32) (XB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 4, 0, 0] S1x1x128x256.size inb_S4x8x128x256_S1x1x128x256_1_4_0_0).toLoadRect (harg6.unread x5)) 4 4#32 slices_S8x128_o4_0_S1x128 slices_S8x1_o4_0_S1x1) 12#32) (XB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 5, 0, 0] S1x1x128x256.size inb_S4x8x128x256_S1x1x128x256_1_5_0_0).toLoadRect (harg6.unread x5)) 5 5#32 slices_S8x128_o5_0_S1x128 slices_S8x1_o5_0_S1x1) 13#32) (XB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 6, 0, 0] S1x1x128x256.size inb_S4x8x128x256_S1x1x128x256_1_6_0_0).toLoadRect (harg6.unread x5)) 6 6#32 slices_S8x128_o6_0_S1x128 slices_S8x1_o6_0_S1x1) 14#32) (XB
        (View.readAt (Elt F) arg1.view (Rect.unit (s := S4x4x128) ![1, 0, 0] S1x4x128.size inb_S4x4x128_S1x4x128_1_0_0).toLoadRect (harg1.unread x0))
        (View.readAt (Elt F) arg2.view (Rect.unit (s := S4x4x128) ![1, 0, 0] S1x4x128.size inb_S4x4x128_S1x4x128_1_0_0).toLoadRect (harg2.unread x1))
        (View.readAt (Elt F) arg3.view (Rect.unit (s := S4x8x256) ![1, 0, 0] S1x8x256.size inb_S4x8x256_S1x8x256_1_0_0).toLoadRect (harg3.unread x2))
        (View.readAt (Elt F) arg4.view (Rect.unit (s := S4x1x8) ![1, 0, 0] S1x1x8.size inb_S4x1x8_S1x1x8_1_0_0).toLoadRect (harg4.unread x3))
        (View.readAt (Elt F) arg5.view (Rect.unit (s := S4x1x8) ![1, 0, 0] S1x1x8.size inb_S4x1x8_S1x1x8_1_0_0).toLoadRect (harg5.unread x4))
        (View.readAt (Elt F) arg7.view (Rect.unit (s := S4x8x128) ![1, 0, 0] S1x8x128.size inb_S4x8x128_S1x8x128_1_0_0).toLoadRect (harg7.unread x6))
        (View.readAt (Elt F) arg6.view (Rect.unit (s := S4x8x128x256) ![1, 0, 0, 0] S1x2x128x256.size inb_S4x8x128x256_S1x2x128x256_1_0_0_0).toLoadRect (harg6.unread x5))
        (View.readAt (Elt F) arg6.view (Rect.unit (s := S4x8x128x256) ![1, 2, 0, 0] S1x2x128x256.size inb_S4x8x128x256_S1x2x128x256_1_2_0_0).toLoadRect (harg6.unread x5))
        (View.readAt (Elt F) arg6.view (Rect.unit (s := S4x8x128x256) ![1, 4, 0, 0] S1x2x128x256.size inb_S4x8x128x256_S1x2x128x256_1_4_0_0).toLoadRect (harg6.unread x5))
        (View.readAt (Elt F) arg6.view (Rect.unit (s := S4x8x128x256) ![1, 6, 0, 0] S1x2x128x256.size inb_S4x8x128x256_S1x2x128x256_1_6_0_0).toLoadRect (harg6.unread x5))
        (View.readAt (Elt F) arg6.view (Rect.unit (s := S4x8x128x256) ![1, 7, 0, 0] S1x1x128x256.size inb_S4x8x128x256_S1x1x128x256_1_7_0_0).toLoadRect (harg6.unread x5)) 7 7#32 slices_S8x128_o7_0_S1x128 slices_S8x1_o7_0_S1x1) 15#32) (XB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 0, 0, 0] S1x1x128x256.size inb_S4x8x128x256_S1x1x128x256_2_0_0_0).toLoadRect (harg6.unread x5)) 0 0#32 slices_S8x128_o0_0_S1x128 slices_S8x1_o0_0_S1x1) 16#32) (XB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 1, 0, 0] S1x1x128x256.size inb_S4x8x128x256_S1x1x128x256_2_1_0_0).toLoadRect (harg6.unread x5)) 1 1#32 slices_S8x128_o1_0_S1x128 slices_S8x1_o1_0_S1x1) 17#32) (XB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 2, 0, 0] S1x1x128x256.size inb_S4x8x128x256_S1x1x128x256_2_2_0_0).toLoadRect (harg6.unread x5)) 2 2#32 slices_S8x128_o2_0_S1x128 slices_S8x1_o2_0_S1x1) 18#32) (XB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 3, 0, 0] S1x1x128x256.size inb_S4x8x128x256_S1x1x128x256_2_3_0_0).toLoadRect (harg6.unread x5)) 3 3#32 slices_S8x128_o3_0_S1x128 slices_S8x1_o3_0_S1x1) 19#32) (XB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 4, 0, 0] S1x1x128x256.size inb_S4x8x128x256_S1x1x128x256_2_4_0_0).toLoadRect (harg6.unread x5)) 4 4#32 slices_S8x128_o4_0_S1x128 slices_S8x1_o4_0_S1x1) 20#32) (XB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 5, 0, 0] S1x1x128x256.size inb_S4x8x128x256_S1x1x128x256_2_5_0_0).toLoadRect (harg6.unread x5)) 5 5#32 slices_S8x128_o5_0_S1x128 slices_S8x1_o5_0_S1x1) 21#32) (XB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 6, 0, 0] S1x1x128x256.size inb_S4x8x128x256_S1x1x128x256_2_6_0_0).toLoadRect (harg6.unread x5)) 6 6#32 slices_S8x128_o6_0_S1x128 slices_S8x1_o6_0_S1x1) 22#32) (XB
        (View.readAt (Elt F) arg1.view (Rect.unit (s := S4x4x128) ![2, 0, 0] S1x4x128.size inb_S4x4x128_S1x4x128_2_0_0).toLoadRect (harg1.unread x0))
        (View.readAt (Elt F) arg2.view (Rect.unit (s := S4x4x128) ![2, 0, 0] S1x4x128.size inb_S4x4x128_S1x4x128_2_0_0).toLoadRect (harg2.unread x1))
        (View.readAt (Elt F) arg3.view (Rect.unit (s := S4x8x256) ![2, 0, 0] S1x8x256.size inb_S4x8x256_S1x8x256_2_0_0).toLoadRect (harg3.unread x2))
        (View.readAt (Elt F) arg4.view (Rect.unit (s := S4x1x8) ![2, 0, 0] S1x1x8.size inb_S4x1x8_S1x1x8_2_0_0).toLoadRect (harg4.unread x3))
        (View.readAt (Elt F) arg5.view (Rect.unit (s := S4x1x8) ![2, 0, 0] S1x1x8.size inb_S4x1x8_S1x1x8_2_0_0).toLoadRect (harg5.unread x4))
        (View.readAt (Elt F) arg7.view (Rect.unit (s := S4x8x128) ![2, 0, 0] S1x8x128.size inb_S4x8x128_S1x8x128_2_0_0).toLoadRect (harg7.unread x6))
        (View.readAt (Elt F) arg6.view (Rect.unit (s := S4x8x128x256) ![2, 0, 0, 0] S1x2x128x256.size inb_S4x8x128x256_S1x2x128x256_2_0_0_0).toLoadRect (harg6.unread x5))
        (View.readAt (Elt F) arg6.view (Rect.unit (s := S4x8x128x256) ![2, 2, 0, 0] S1x2x128x256.size inb_S4x8x128x256_S1x2x128x256_2_2_0_0).toLoadRect (harg6.unread x5))
        (View.readAt (Elt F) arg6.view (Rect.unit (s := S4x8x128x256) ![2, 4, 0, 0] S1x2x128x256.size inb_S4x8x128x256_S1x2x128x256_2_4_0_0).toLoadRect (harg6.unread x5))
        (View.readAt (Elt F) arg6.view (Rect.unit (s := S4x8x128x256) ![2, 6, 0, 0] S1x2x128x256.size inb_S4x8x128x256_S1x2x128x256_2_6_0_0).toLoadRect (harg6.unread x5))
        (View.readAt (Elt F) arg6.view (Rect.unit (s := S4x8x128x256) ![2, 7, 0, 0] S1x1x128x256.size inb_S4x8x128x256_S1x1x128x256_2_7_0_0).toLoadRect (harg6.unread x5)) 7 7#32 slices_S8x128_o7_0_S1x128 slices_S8x1_o7_0_S1x1) 23#32) (XB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 0, 0, 0] S1x1x128x256.size inb_S4x8x128x256_S1x1x128x256_3_0_0_0).toLoadRect (harg6.unread x5)) 0 0#32 slices_S8x128_o0_0_S1x128 slices_S8x1_o0_0_S1x1) 24#32) (XB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 1, 0, 0] S1x1x128x256.size inb_S4x8x128x256_S1x1x128x256_3_1_0_0).toLoadRect (harg6.unread x5)) 1 1#32 slices_S8x128_o1_0_S1x128 slices_S8x1_o1_0_S1x1) 25#32) (XB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 2, 0, 0] S1x1x128x256.size inb_S4x8x128x256_S1x1x128x256_3_2_0_0).toLoadRect (harg6.unread x5)) 2 2#32 slices_S8x128_o2_0_S1x128 slices_S8x1_o2_0_S1x1) 26#32) (XB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 3, 0, 0] S1x1x128x256.size inb_S4x8x128x256_S1x1x128x256_3_3_0_0).toLoadRect (harg6.unread x5)) 3 3#32 slices_S8x128_o3_0_S1x128 slices_S8x1_o3_0_S1x1) 27#32) (XB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 4, 0, 0] S1x1x128x256.size inb_S4x8x128x256_S1x1x128x256_3_4_0_0).toLoadRect (harg6.unread x5)) 4 4#32 slices_S8x128_o4_0_S1x128 slices_S8x1_o4_0_S1x1) 28#32) (XB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 5, 0, 0] S1x1x128x256.size inb_S4x8x128x256_S1x1x128x256_3_5_0_0).toLoadRect (harg6.unread x5)) 5 5#32 slices_S8x128_o5_0_S1x128 slices_S8x1_o5_0_S1x1) 29#32) (XB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 6, 0, 0] S1x1x128x256.size inb_S4x8x128x256_S1x1x128x256_3_6_0_0).toLoadRect (harg6.unread x5)) 6 6#32 slices_S8x128_o6_0_S1x128 slices_S8x1_o6_0_S1x1) 30#32) (XB
        (View.readAt (Elt F) arg1.view (Rect.unit (s := S4x4x128) ![3, 0, 0] S1x4x128.size inb_S4x4x128_S1x4x128_3_0_0).toLoadRect (harg1.unread x0))
        (View.readAt (Elt F) arg2.view (Rect.unit (s := S4x4x128) ![3, 0, 0] S1x4x128.size inb_S4x4x128_S1x4x128_3_0_0).toLoadRect (harg2.unread x1))
        (View.readAt (Elt F) arg3.view (Rect.unit (s := S4x8x256) ![3, 0, 0] S1x8x256.size inb_S4x8x256_S1x8x256_3_0_0).toLoadRect (harg3.unread x2))
        (View.readAt (Elt F) arg4.view (Rect.unit (s := S4x1x8) ![3, 0, 0] S1x1x8.size inb_S4x1x8_S1x1x8_3_0_0).toLoadRect (harg4.unread x3))
        (View.readAt (Elt F) arg5.view (Rect.unit (s := S4x1x8) ![3, 0, 0] S1x1x8.size inb_S4x1x8_S1x1x8_3_0_0).toLoadRect (harg5.unread x4))
        (View.readAt (Elt F) arg7.view (Rect.unit (s := S4x8x128) ![3, 0, 0] S1x8x128.size inb_S4x8x128_S1x8x128_3_0_0).toLoadRect (harg7.unread x6))
        (View.readAt (Elt F) arg6.view (Rect.unit (s := S4x8x128x256) ![3, 0, 0, 0] S1x2x128x256.size inb_S4x8x128x256_S1x2x128x256_3_0_0_0).toLoadRect (harg6.unread x5))
        (View.readAt (Elt F) arg6.view (Rect.unit (s := S4x8x128x256) ![3, 2, 0, 0] S1x2x128x256.size inb_S4x8x128x256_S1x2x128x256_3_2_0_0).toLoadRect (harg6.unread x5))
        (View.readAt (Elt F) arg6.view (Rect.unit (s := S4x8x128x256) ![3, 4, 0, 0] S1x2x128x256.size inb_S4x8x128x256_S1x2x128x256_3_4_0_0).toLoadRect (harg6.unread x5))
        (View.readAt (Elt F) arg6.view (Rect.unit (s := S4x8x128x256) ![3, 6, 0, 0] S1x2x128x256.size inb_S4x8x128x256_S1x2x128x256_3_6_0_0).toLoadRect (harg6.unread x5))
        (View.readAt (Elt F) arg6.view (Rect.unit (s := S4x8x128x256) ![3, 7, 0, 0] S1x1x128x256.size inb_S4x8x128x256_S1x1x128x256_3_7_0_0).toLoadRect (harg6.unread x5)) 7 7#32 slices_S8x128_o7_0_S1x128 slices_S8x1_o7_0_S1x1) 31#32))⟩] := rfl

end Cert.Kernel.Val

end
-- ==== Proof.Blk.lean ====
module

public import proofs.«01_k».proof.Proof.Out
public import proofs.«01_k».proof.Proof.Pieces7
public import proofs.«01_k».proof.Proof.Pieces8
public import proofs.«01_k».proof.Proof.Pieces9

@[expose] public section

set_option maxRecDepth 16384

noncomputable section

namespace Cert.Kernel.Val

open Idealize.ShloMosaic Idealize.ShloMosaic.TcCoe
open Cert.Kernel.Facts₀ Cert.Kernel.Facts

variable {F : FTy → Type} [FloatOps F]

/-! # What the kernel's three output buffers hold after the body -/

/-- A list of stores agrees with one function when its head and its tail do. -/
theorem agree_cons {s : Shape} {e : EltTy} {Val : EltTy → Type} (G : s.Idx → Val e) (p : View.Piece Val s e) (L : List (View.Piece Val s e))
    (h : ∀ x : p.1.shape.Idx, p.2 x = G (p.1.emb x)) (hL : ∀ q ∈ L, ∀ x : q.1.shape.Idx, q.2 x = G (q.1.emb x)) :
    ∀ q ∈ p :: L, ∀ x : q.1.shape.Idx, q.2 x = G (q.1.emb x) := by
  intro q hq
  rcases List.mem_cons.1 hq with rfl | hq
  · exact h
  · exact hL q hq

/-- Where row block `b` of the first output lies. -/
theorem idx7 (b : Fin 4) (inb) (x : S1x8x256.Idx) :
    ((Rect.unit (s := S4x8x256) ![(b : ℕ), 0, 0] S1x8x256.size inb).emb x) = (ix3 b (x 1) (x 2) : S4x8x256.Idx) := by
  funext a
  match a with
  | ⟨0, _⟩ => exact Fin.ext (by have h : (x 0 : ℕ) < 1 := (x 0).isLt; show (b : ℕ) + 1 * (x 0 : ℕ) = b; omega)
  | ⟨1, _⟩ => exact Fin.ext (by show 0 + 1 * (x 1 : ℕ) = x 1; omega)
  | ⟨2, _⟩ => exact Fin.ext (by show 0 + 1 * (x 2 : ℕ) = x 2; omega)

/-- An index of a row block, by its coordinates. -/
theorem eta7 (x : S1x8x256.Idx) : x = ix3 0 (x 1) (x 2) := by
  funext a
  match a with
  | ⟨0, _⟩ => exact Fin.ext (by have h : (x 0 : ℕ) < 1 := (x 0).isLt; show (x 0 : ℕ) = 0; omega)
  | ⟨1, _⟩ => rfl
  | ⟨2, _⟩ => rfl

/-- Where the codes of batch element `b` and head `h` lie. -/
theorem idx8 (b : Fin 4) (h : Fin 8) (inb) (x : S1x1x128x256.Idx) :
    ((Rect.unit (s := S4x8x128x256) ![(b : ℕ), (h : ℕ), 0, 0] S1x1x128x256.size inb).emb x) = (ix4 b h (x 2) (x 3) : S4x8x128x256.Idx) := by
  funext a
  match a with
  | ⟨0, _⟩ => exact Fin.ext (by have h : (x 0 : ℕ) < 1 := (x 0).isLt; show (b : ℕ) + 1 * (x 0 : ℕ) = b; omega)
  | ⟨1, _⟩ => exact Fin.ext (by have h' : (x 1 : ℕ) < 1 := (x 1).isLt; show (h : ℕ) + 1 * (x 1 : ℕ) = h; omega)
  | ⟨2, _⟩ => exact Fin.ext (by show 0 + 1 * (x 2 : ℕ) = x 2; omega)
  | ⟨3, _⟩ => exact Fin.ext (by show 0 + 1 * (x 3 : ℕ) = x 3; omega)

/-- An index of a block of codes, by its coordinates. -/
theorem eta8 (x : S1x1x128x256.Idx) : x = ix4 0 0 (x 2) (x 3) := by
  funext a
  match a with
  | ⟨0, _⟩ => exact Fin.ext (by have h : (x 0 : ℕ) < 1 := (x 0).isLt; show (x 0 : ℕ) = 0; omega)
  | ⟨1, _⟩ => exact Fin.ext (by have h : (x 1 : ℕ) < 1 := (x 1).isLt; show (x 1 : ℕ) = 0; omega)
  | ⟨2, _⟩ => rfl
  | ⟨3, _⟩ => rfl

section
variable (x0 x1 : Vec F S4x4x128 .bf16) (x2 : Vec F S4x8x256 .bf16) (x3 x4 : Vec F S4x1x8 .f32) (x5 : Vec F S4x8x128x256 .fp8e4m3) (x6 : Vec F S4x8x128 .f32)

/-- A stored piece of the first output is the block's function there. -/
theorem at7 (b : Fin 4) (inb) (x : S1x8x256.Idx) : OBx x0 x1 x2 x3 x4 x5 x6 b x
    = O7 x0 x1 x2 x3 x4 x5 x6 ((Rect.unit (s := S4x8x256) ![(b : ℕ), 0, 0] S1x8x256.size inb).emb x) := by
  rw [idx7, eta7 x]; rfl

/-- A stored piece of the codes is the block's function there. -/
theorem at8 (b : Fin 4) (h : Fin 8) (inb) (x : S1x1x128x256.Idx) : CBx x0 x1 x2 x3 x4 x5 x6 b h x
    = O8 x0 x1 x2 x3 x4 x5 x6 ((Rect.unit (s := S4x8x128x256) ![(b : ℕ), (h : ℕ), 0, 0] S1x1x128x256.size inb).emb x) := by
  rw [idx8, eta8 x]; rfl

end

/-- The stores fill the whole buffer of the first output. -/
theorem cover7 (c : Dev nD) (i : grid0.Coords) (arg1 : Memref sig .tc .vmem S4x4x128 .bf16) (harg1 : arg1.IsWhole) (arg2 : Memref sig .tc .vmem S4x4x128 .bf16) (harg2 : arg2.IsWhole) (arg3 : Memref sig .tc .vmem S4x8x256 .bf16) (harg3 : arg3.IsWhole) (arg4 : Memref sig .tc .vmem S4x1x8 .f32) (harg4 : arg4.IsWhole) (arg5 : Memref sig .tc .vmem S4x1x8 .f32) (harg5 : arg5.IsWhole) (arg6 : Memref sig .tc .vmem S4x8x128x256 .fp8e4m3) (harg6 : arg6.IsWhole) (arg7 : Memref sig .tc .vmem S4x8x128 .f32) (harg7 : arg7.IsWhole) (arg8 : Memref sig .tc .vmem S4x8x256 .bf16) (harg8 : arg8.IsWhole) (arg9 : Memref sig .tc .vmem S4x8x128x256 .fp8e4m3) (harg9 : arg9.IsWhole) (arg10 : Memref sig .tc .vmem S4x8x128 .f32) (harg10 : arg10.IsWhole) (arg11 : Memref sig .tc .vmem S128x128 .f32) (harg11 : arg11.IsWhole)
    (x0 : Vec F S4x4x128 .bf16) (x1 : Vec F S4x4x128 .bf16) (x2 : Vec F S4x8x256 .bf16) (x3 : Vec F S4x1x8 .f32) (x4 : Vec F S4x1x8 .f32) (x5 : Vec F S4x8x128x256 .fp8e4m3) (x6 : Vec F S4x8x128 .f32) (y : S4x8x256.Idx) : ∃ pc ∈ (kernelRunV c i arg1 harg1 arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRunV c i arg1 harg1 arg2 harg2 arg3 harg3 arg4 harg4 arg5 harg5 arg6 harg6 arg7 harg7 arg8 harg8 arg9 harg9 arg10 harg10 arg11 harg11 x0 x1 x2 x3 x4 x5 x6).1 S1x8x256.size (by sl_kernel_rfl) y

/-- The stores fill the whole buffer of the codes. -/
theorem cover8 (c : Dev nD) (i : grid0.Coords) (arg1 : Memref sig .tc .vmem S4x4x128 .bf16) (harg1 : arg1.IsWhole) (arg2 : Memref sig .tc .vmem S4x4x128 .bf16) (harg2 : arg2.IsWhole) (arg3 : Memref sig .tc .vmem S4x8x256 .bf16) (harg3 : arg3.IsWhole) (arg4 : Memref sig .tc .vmem S4x1x8 .f32) (harg4 : arg4.IsWhole) (arg5 : Memref sig .tc .vmem S4x1x8 .f32) (harg5 : arg5.IsWhole) (arg6 : Memref sig .tc .vmem S4x8x128x256 .fp8e4m3) (harg6 : arg6.IsWhole) (arg7 : Memref sig .tc .vmem S4x8x128 .f32) (harg7 : arg7.IsWhole) (arg8 : Memref sig .tc .vmem S4x8x256 .bf16) (harg8 : arg8.IsWhole) (arg9 : Memref sig .tc .vmem S4x8x128x256 .fp8e4m3) (harg9 : arg9.IsWhole) (arg10 : Memref sig .tc .vmem S4x8x128 .f32) (harg10 : arg10.IsWhole) (arg11 : Memref sig .tc .vmem S128x128 .f32) (harg11 : arg11.IsWhole)
    (x0 : Vec F S4x4x128 .bf16) (x1 : Vec F S4x4x128 .bf16) (x2 : Vec F S4x8x256 .bf16) (x3 : Vec F S4x1x8 .f32) (x4 : Vec F S4x1x8 .f32) (x5 : Vec F S4x8x128x256 .fp8e4m3) (x6 : Vec F S4x8x128 .f32) (y : S4x8x128x256.Idx) : ∃ pc ∈ (kernelRunV c i arg1 harg1 arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledL (kernelRunV c i arg1 harg1 arg2 harg2 arg3 harg3 arg4 harg4 arg5 harg5 arg6 harg6 arg7 harg7 arg8 harg8 arg9 harg9 arg10 harg10 arg11 harg11 x0 x1 x2 x3 x4 x5 x6).2.1 S1x1x128x256.size (by sl_kernel_rfl) y

/-- Read back, the output window holds the outputs of the block. -/
theorem read7 {κ : Kind} {sp : Space} (v : View sig κ sp S4x8x256 .bf16) (f : v.ty.Contents (Elt F)) (c : Dev nD) (i : grid0.Coords) (arg1 : Memref sig .tc .vmem S4x4x128 .bf16) (harg1 : arg1.IsWhole) (arg2 : Memref sig .tc .vmem S4x4x128 .bf16) (harg2 : arg2.IsWhole) (arg3 : Memref sig .tc .vmem S4x8x256 .bf16) (harg3 : arg3.IsWhole) (arg4 : Memref sig .tc .vmem S4x1x8 .f32) (harg4 : arg4.IsWhole) (arg5 : Memref sig .tc .vmem S4x1x8 .f32) (harg5 : arg5.IsWhole) (arg6 : Memref sig .tc .vmem S4x8x128x256 .fp8e4m3) (harg6 : arg6.IsWhole) (arg7 : Memref sig .tc .vmem S4x8x128 .f32) (harg7 : arg7.IsWhole) (arg8 : Memref sig .tc .vmem S4x8x256 .bf16) (harg8 : arg8.IsWhole) (arg9 : Memref sig .tc .vmem S4x8x128x256 .fp8e4m3) (harg9 : arg9.IsWhole) (arg10 : Memref sig .tc .vmem S4x8x128 .f32) (harg10 : arg10.IsWhole) (arg11 : Memref sig .tc .vmem S128x128 .f32) (harg11 : arg11.IsWhole)
    (x0 : Vec F S4x4x128 .bf16) (x1 : Vec F S4x4x128 .bf16) (x2 : Vec F S4x8x256 .bf16) (x3 : Vec F S4x1x8 .f32) (x4 : Vec F S4x1x8 .f32) (x5 : Vec F S4x8x128x256 .fp8e4m3) (x6 : Vec F S4x8x128 .f32) :
    v.read (Elt F) (v.writes (Elt F) f (kernelRunV c i arg1 harg1 arg2 harg2 arg3 harg3 arg4 harg4 arg5 harg5 arg6 harg6 arg7 harg7 arg8 harg8 arg9 harg9 arg10 harg10 arg11 harg11 x0 x1 x2 x3 x4 x5 x6).1) = O7 x0 x1 x2 x3 x4 x5 x6 := by
  funext y
  refine View.read_writes_apply_of_pieces _ _ (O7 x0 x1 x2 x3 x4 x5 x6) _ ?_ y (cover7 c i arg1 harg1 arg2 harg2 arg3 harg3 arg4 harg4 arg5 harg5 arg6 harg6 arg7 harg7 arg8 harg8 arg9 harg9 arg10 harg10 arg11 harg11 x0 x1 x2 x3 x4 x5 x6 y)
  rw [L7_eq]
  simp only [View.readAt_eq_ld, Memref.IsWhole.read_unread]
  exact agree_cons _ _ _ (fun x => at7 x0 x1 x2 x3 x4 x5 x6 3 (inbV 3) x) (
    agree_cons _ _ _ (fun x => at7 x0 x1 x2 x3 x4 x5 x6 2 (inbV 2) x) (
    agree_cons _ _ _ (fun x => at7 x0 x1 x2 x3 x4 x5 x6 1 (inbV 1) x) (
    agree_cons _ _ _ (fun x => at7 x0 x1 x2 x3 x4 x5 x6 0 (inbV 0) x) (
    (fun p hp => absurd hp List.not_mem_nil)))))

/-- Read back, the output window holds the new codes of the block. -/
theorem read8 {κ : Kind} {sp : Space} (v : View sig κ sp S4x8x128x256 .fp8e4m3) (f : v.ty.Contents (Elt F)) (c : Dev nD) (i : grid0.Coords) (arg1 : Memref sig .tc .vmem S4x4x128 .bf16) (harg1 : arg1.IsWhole) (arg2 : Memref sig .tc .vmem S4x4x128 .bf16) (harg2 : arg2.IsWhole) (arg3 : Memref sig .tc .vmem S4x8x256 .bf16) (harg3 : arg3.IsWhole) (arg4 : Memref sig .tc .vmem S4x1x8 .f32) (harg4 : arg4.IsWhole) (arg5 : Memref sig .tc .vmem S4x1x8 .f32) (harg5 : arg5.IsWhole) (arg6 : Memref sig .tc .vmem S4x8x128x256 .fp8e4m3) (harg6 : arg6.IsWhole) (arg7 : Memref sig .tc .vmem S4x8x128 .f32) (harg7 : arg7.IsWhole) (arg8 : Memref sig .tc .vmem S4x8x256 .bf16) (harg8 : arg8.IsWhole) (arg9 : Memref sig .tc .vmem S4x8x128x256 .fp8e4m3) (harg9 : arg9.IsWhole) (arg10 : Memref sig .tc .vmem S4x8x128 .f32) (harg10 : arg10.IsWhole) (arg11 : Memref sig .tc .vmem S128x128 .f32) (harg11 : arg11.IsWhole)
    (x0 : Vec F S4x4x128 .bf16) (x1 : Vec F S4x4x128 .bf16) (x2 : Vec F S4x8x256 .bf16) (x3 : Vec F S4x1x8 .f32) (x4 : Vec F S4x1x8 .f32) (x5 : Vec F S4x8x128x256 .fp8e4m3) (x6 : Vec F S4x8x128 .f32) :
    v.read (Elt F) (v.writes (Elt F) f (kernelRunV c i arg1 harg1 arg2 harg2 arg3 harg3 arg4 harg4 arg5 harg5 arg6 harg6 arg7 harg7 arg8 harg8 arg9 harg9 arg10 harg10 arg11 harg11 x0 x1 x2 x3 x4 x5 x6).2.1) = O8 x0 x1 x2 x3 x4 x5 x6 := by
  funext y
  refine View.read_writes_apply_of_pieces _ _ (O8 x0 x1 x2 x3 x4 x5 x6) _ ?_ y (cover8 c i arg1 harg1 arg2 harg2 arg3 harg3 arg4 harg4 arg5 harg5 arg6 harg6 arg7 harg7 arg8 harg8 arg9 harg9 arg10 harg10 arg11 harg11 x0 x1 x2 x3 x4 x5 x6 y)
  rw [L8_eq]
  simp only [View.readAt_eq_ld, Memref.IsWhole.read_unread]
  exact agree_cons _ _ _ (fun x => at8 x0 x1 x2 x3 x4 x5 x6 3 7 (inbC 3 7) x) (
    agree_cons _ _ _ (fun x => at8 x0 x1 x2 x3 x4 x5 x6 3 6 (inbC 3 6) x) (
    agree_cons _ _ _ (fun x => at8 x0 x1 x2 x3 x4 x5 x6 3 5 (inbC 3 5) x) (
    agree_cons _ _ _ (fun x => at8 x0 x1 x2 x3 x4 x5 x6 3 4 (inbC 3 4) x) (
    agree_cons _ _ _ (fun x => at8 x0 x1 x2 x3 x4 x5 x6 3 3 (inbC 3 3) x) (
    agree_cons _ _ _ (fun x => at8 x0 x1 x2 x3 x4 x5 x6 3 2 (inbC 3 2) x) (
    agree_cons _ _ _ (fun x => at8 x0 x1 x2 x3 x4 x5 x6 3 1 (inbC 3 1) x) (
    agree_cons _ _ _ (fun x => at8 x0 x1 x2 x3 x4 x5 x6 3 0 (inbC 3 0) x) (
    agree_cons _ _ _ (fun x => at8 x0 x1 x2 x3 x4 x5 x6 2 7 (inbC 2 7) x) (
    agree_cons _ _ _ (fun x => at8 x0 x1 x2 x3 x4 x5 x6 2 6 (inbC 2 6) x) (
    agree_cons _ _ _ (fun x => at8 x0 x1 x2 x3 x4 x5 x6 2 5 (inbC 2 5) x) (
    agree_cons _ _ _ (fun x => at8 x0 x1 x2 x3 x4 x5 x6 2 4 (inbC 2 4) x) (
    agree_cons _ _ _ (fun x => at8 x0 x1 x2 x3 x4 x5 x6 2 3 (inbC 2 3) x) (
    agree_cons _ _ _ (fun x => at8 x0 x1 x2 x3 x4 x5 x6 2 2 (inbC 2 2) x) (
    agree_cons _ _ _ (fun x => at8 x0 x1 x2 x3 x4 x5 x6 2 1 (inbC 2 1) x) (
    agree_cons _ _ _ (fun x => at8 x0 x1 x2 x3 x4 x5 x6 2 0 (inbC 2 0) x) (
    agree_cons _ _ _ (fun x => at8 x0 x1 x2 x3 x4 x5 x6 1 7 (inbC 1 7) x) (
    agree_cons _ _ _ (fun x => at8 x0 x1 x2 x3 x4 x5 x6 1 6 (inbC 1 6) x) (
    agree_cons _ _ _ (fun x => at8 x0 x1 x2 x3 x4 x5 x6 1 5 (inbC 1 5) x) (
    agree_cons _ _ _ (fun x => at8 x0 x1 x2 x3 x4 x5 x6 1 4 (inbC 1 4) x) (
    agree_cons _ _ _ (fun x => at8 x0 x1 x2 x3 x4 x5 x6 1 3 (inbC 1 3) x) (
    agree_cons _ _ _ (fun x => at8 x0 x1 x2 x3 x4 x5 x6 1 2 (inbC 1 2) x) (
    agree_cons _ _ _ (fun x => at8 x0 x1 x2 x3 x4 x5 x6 1 1 (inbC 1 1) x) (
    agree_cons _ _ _ (fun x => at8 x0 x1 x2 x3 x4 x5 x6 1 0 (inbC 1 0) x) (
    agree_cons _ _ _ (fun x => at8 x0 x1 x2 x3 x4 x5 x6 0 7 (inbC 0 7) x) (
    agree_cons _ _ _ (fun x => at8 x0 x1 x2 x3 x4 x5 x6 0 6 (inbC 0 6) x) (
    agree_cons _ _ _ (fun x => at8 x0 x1 x2 x3 x4 x5 x6 0 5 (inbC 0 5) x) (
    agree_cons _ _ _ (fun x => at8 x0 x1 x2 x3 x4 x5 x6 0 4 (inbC 0 4) x) (
    agree_cons _ _ _ (fun x => at8 x0 x1 x2 x3 x4 x5 x6 0 3 (inbC 0 3) x) (
    agree_cons _ _ _ (fun x => at8 x0 x1 x2 x3 x4 x5 x6 0 2 (inbC 0 2) x) (
    agree_cons _ _ _ (fun x => at8 x0 x1 x2 x3 x4 x5 x6 0 1 (inbC 0 1) x) (
    agree_cons _ _ _ (fun x => at8 x0 x1 x2 x3 x4 x5 x6 0 0 (inbC 0 0) x) (
    (fun p hp => absurd hp List.not_mem_nil)))))))))))))))))))))))))))))))))

end Cert.Kernel.Val

end
-- ==== Proof.Scr.lean ====
module

public import proofs.«01_k».proof.Proof.Out
public import proofs.«01_k».proof.Proof.Pieces9
public import Idealize.ShloMosaic.Lib.VecWindow

@[expose] public section

set_option maxRecDepth 16384

noncomputable section

namespace Cert.Kernel.Val

open Idealize.ShloMosaic Idealize.ShloMosaic.TcCoe
open Cert.Kernel.Facts₀ Cert.Kernel.Facts

variable {F : FTy → Type} [FloatOps F]

/-! # Reading the scratch buffer of row maxima back -/

/-- The whole rectangle moves no index. -/
theorem idxFull (r l : Fin 128) : ((Rect.unit (s := S128x128) ![0, 0] S128x128.size inb_S128x128_S128x128_0_0).idx (ix2 r l : S128x128.Idx)) = (ix2 r l : S128x128.Idx) := by
  funext a
  match a with
  | ⟨0, _⟩ => exact Fin.ext (by show 0 + 1 * (r : ℕ) = r; omega)
  | ⟨1, _⟩ => exact Fin.ext (by show 0 + 1 * (l : ℕ) = l; omega)

/-- The lane mask of a store. -/
theorem lane_at (h : ℕ) (hh : h < 128) (r l : Fin 128) : SEL (BitVec.ofNat 32 h) (ix2 r l) = 1 ↔ (l : ℕ) = h := by
  have e : SEL (BitVec.ofNat 32 h) (ix2 r l) = BitVec.ofBool (BitVec.ofNat 32 (l : ℕ) == BitVec.ofNat 32 h) := by
    pointwise [SEL, LANE]
    rfl
  rw [e]
  have hl := l.isLt
  constructor
  · intro h1
    have h2 : BitVec.ofNat 32 (l : ℕ) = BitVec.ofNat 32 h := by
      by_contra hne
      rw [show (BitVec.ofNat 32 (l : ℕ) == BitVec.ofNat 32 h) = false from beq_eq_false_iff_ne.2 hne] at h1
      exact absurd h1 (by decide)
    have h3 := congrArg BitVec.toNat h2
    simp only [BitVec.toNat_ofNat] at h3
    omega
  · intro h1
    rw [h1]; simp

/-- The stored column, in every lane. -/
theorem xst_at (x : FVec F S128x1 .f32) (r l : Fin 128) : XST x (ix2 r l) = x (ix2 r 0) := by
  pointwise [XST]

/-- One masked store, read back: its lane holds the stored column, every other lane what it held. -/
theorem put_at (arg11 : Memref sig .tc .vmem S128x128 .f32) (f : arg11.view.ty.Contents (Elt F)) (x : FVec F S128x1 .f32) (h : ℕ) (hh : h < 128)
    (r l : Fin 128) : View.readAt (Elt F) arg11.view (Rect.unit (s := S128x128) ![0, 0] S128x128.size inb_S128x128_S128x128_0_0).toLoadRect (PUT arg11 f x (BitVec.ofNat 32 h)) (ix2 r l)
      = if (l : ℕ) = h then x (ix2 r 0) else View.readAt (Elt F) arg11.view (Rect.unit (s := S128x128) ![0, 0] S128x128.size inb_S128x128_S128x128_0_0).toLoadRect f (ix2 r l) := by
  have hm : (ix2 r l : S128x128.Idx) ∈ IVec.on (SEL (BitVec.ofNat 32 h)) ↔ (l : ℕ) = h := by
    rw [← lane_at h hh r l]; simp [IVec.on]
  by_cases e : (l : ℕ) = h
  · rw [if_pos e, ← xst_at x r l]
    exact View.read_write_of_mem (v := arg11.access (Rect.unit (s := S128x128) ![0, 0] S128x128.size inb_S128x128_S128x128_0_0)) f (XST x) (hm.2 e)
  · rw [if_neg e]
    show cast _ (View.write (Elt F) (arg11.access (Rect.unit (s := S128x128) ![0, 0] S128x128.size inb_S128x128_S128x128_0_0)) f (XST x) _ ((arg11.access (Rect.unit (s := S128x128) ![0, 0] S128x128.size inb_S128x128_S128x128_0_0)).emb (ix2 r l))) = _
    rw [View.write_emb]
    split_ifs with h'
    · exact absurd (hm.1 h') e
    · rfl

/-- The buffer after the thirty-two stores: lane `8 b + h` holds column `X b h`. -/
theorem chain (arg11 : Memref sig .tc .vmem S128x128 .f32) (f : arg11.view.ty.Contents (Elt F)) (X : Fin 4 → Fin 8 → FVec F S128x1 .f32)
    (r l : Fin 128) (hl : (l : ℕ) < 32) : View.readAt (Elt F) arg11.view (Rect.unit (s := S128x128) ![0, 0] S128x128.size inb_S128x128_S128x128_0_0).toLoadRect (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 (PUT arg11 f (X 0 0) 0#32) (X 0 1) 1#32) (X 0 2) 2#32) (X 0 3) 3#32) (X 0 4) 4#32) (X 0 5) 5#32) (X 0 6) 6#32) (X 0 7) 7#32) (X 1 0) 8#32) (X 1 1) 9#32) (X 1 2) 10#32) (X 1 3) 11#32) (X 1 4) 12#32) (X 1 5) 13#32) (X 1 6) 14#32) (X 1 7) 15#32) (X 2 0) 16#32) (X 2 1) 17#32) (X 2 2) 18#32) (X 2 3) 19#32) (X 2 4) 20#32) (X 2 5) 21#32) (X 2 6) 22#32) (X 2 7) 23#32) (X 3 0) 24#32) (X 3 1) 25#32) (X 3 2) 26#32) (X 3 3) 27#32) (X 3 4) 28#32) (X 3 5) 29#32) (X 3 6) 30#32) (X 3 7) 31#32) (ix2 r l)
      = X ⟨(l : ℕ) / 8, by omega⟩ ⟨(l : ℕ) % 8, Nat.mod_lt _ (by decide)⟩ (ix2 r 0) := by
  rw [put_at _ _ _ 31 (by decide), put_at _ _ _ 30 (by decide), put_at _ _ _ 29 (by decide), put_at _ _ _ 28 (by decide), put_at _ _ _ 27 (by decide), put_at _ _ _ 26 (by decide), put_at _ _ _ 25 (by decide), put_at _ _ _ 24 (by decide), put_at _ _ _ 23 (by decide), put_at _ _ _ 22 (by decide), put_at _ _ _ 21 (by decide), put_at _ _ _ 20 (by decide), put_at _ _ _ 19 (by decide), put_at _ _ _ 18 (by decide), put_at _ _ _ 17 (by decide), put_at _ _ _ 16 (by decide), put_at _ _ _ 15 (by decide), put_at _ _ _ 14 (by decide), put_at _ _ _ 13 (by decide), put_at _ _ _ 12 (by decide), put_at _ _ _ 11 (by decide), put_at _ _ _ 10 (by decide), put_at _ _ _ 9 (by decide), put_at _ _ _ 8 (by decide), put_at _ _ _ 7 (by decide), put_at _ _ _ 6 (by decide), put_at _ _ _ 5 (by decide), put_at _ _ _ 4 (by decide), put_at _ _ _ 3 (by decide), put_at _ _ _ 2 (by decide), put_at _ _ _ 1 (by decide), put_at _ _ _ 0 (by decide)]
  obtain ⟨l, hl'⟩ := l
  dsimp only at hl ⊢
  interval_cases l <;> rfl

/-- The scales read the first 32 lanes alone. -/
theorem scales_congr (y y' : Vec F S128x128 .f32) (h : ∀ r l : Fin 128, (l : ℕ) < 32 → y (ix2 r l) = y' (ix2 r l)) : SCALES y = SCALES y' := by
  have e : extractStridedSlice S32x128 ![0, 0] (transpose S128x128 [1, 0] y transposes_S128x128_p1_0_S128x128) slices_S128x128_o0_0_S32x128
      = extractStridedSlice S32x128 ![0, 0] (transpose S128x128 [1, 0] y' transposes_S128x128_p1_0_S128x128) slices_S128x128_o0_0_S32x128 := by
    funext j
    idx_vars j
    pointwise
    exact h j1 _ j0.isLt
  unfold SCALES
  rw [e]

section
variable (x0 x1 : Vec F S4x4x128 .bf16) (x2 : Vec F S4x8x256 .bf16) (x3 x4 : Vec F S4x1x8 .f32) (x5 : Vec F S4x8x128x256 .fp8e4m3) (x6 : Vec F S4x8x128 .f32)

/-- Lane `l` of the gathered row maxima is that of batch element `l / 8` and head `l % 8`. -/
theorem y9_at (r l : Fin 128) (hl : (l : ℕ) < 32) : Y9 x0 x1 x2 x3 x4 x5 x6 (ix2 r l)
    = XBx x0 x1 x2 x3 x4 x5 x6 ⟨(l : ℕ) / 8, by omega⟩ ⟨(l : ℕ) % 8, Nat.mod_lt _ (by decide)⟩ (ix2 r 0) := dif_pos hl

end

/-- Read back, the output window holds the new scales of the block, whatever the scratch buffer held. -/
theorem read9 {κ : Kind} {sp : Space} (v : View sig κ sp S4x8x128 .f32) (f : v.ty.Contents (Elt F)) (c : Dev nD) (i : grid0.Coords) (arg1 : Memref sig .tc .vmem S4x4x128 .bf16) (harg1 : arg1.IsWhole) (arg2 : Memref sig .tc .vmem S4x4x128 .bf16) (harg2 : arg2.IsWhole) (arg3 : Memref sig .tc .vmem S4x8x256 .bf16) (harg3 : arg3.IsWhole) (arg4 : Memref sig .tc .vmem S4x1x8 .f32) (harg4 : arg4.IsWhole) (arg5 : Memref sig .tc .vmem S4x1x8 .f32) (harg5 : arg5.IsWhole) (arg6 : Memref sig .tc .vmem S4x8x128x256 .fp8e4m3) (harg6 : arg6.IsWhole) (arg7 : Memref sig .tc .vmem S4x8x128 .f32) (harg7 : arg7.IsWhole) (arg8 : Memref sig .tc .vmem S4x8x256 .bf16) (harg8 : arg8.IsWhole) (arg9 : Memref sig .tc .vmem S4x8x128x256 .fp8e4m3) (harg9 : arg9.IsWhole) (arg10 : Memref sig .tc .vmem S4x8x128 .f32) (harg10 : arg10.IsWhole) (arg11 : Memref sig .tc .vmem S128x128 .f32) (harg11 : arg11.IsWhole)
    (x0 : Vec F S4x4x128 .bf16) (x1 : Vec F S4x4x128 .bf16) (x2 : Vec F S4x8x256 .bf16) (x3 : Vec F S4x1x8 .f32) (x4 : Vec F S4x1x8 .f32) (x5 : Vec F S4x8x128x256 .fp8e4m3) (x6 : Vec F S4x8x128 .f32) (ds0 : Vec F S128x128 .f32) :
    v.read (Elt F) (v.writes (Elt F) f ((kernelRunV c i arg1 harg1 arg2 harg2 arg3 harg3 arg4 harg4 arg5 harg5 arg6 harg6 arg7 harg7 arg8 harg8 arg9 harg9 arg10 harg10 arg11 harg11 x0 x1 x2 x3 x4 x5 x6).2.2.1 ds0)) = O9 x0 x1 x2 x3 x4 x5 x6 := by
  rw [L9_eq]
  simp only [View.readAt_eq_ld, Memref.IsWhole.read_unread]
  refine (View.read_writes_full v f _ _ []).trans (scales_congr _ _ fun r l hl => ?_)
  exact (chain (F := F) arg11 (harg11.unread ds0) (XBx x0 x1 x2 x3 x4 x5 x6) r l hl).trans (y9_at x0 x1 x2 x3 x4 x5 x6 r l hl).symm

end Cert.Kernel.Val

end
-- ==== Proof.Run.lean ====
module

public import proofs.«01_k».proof.Proof.Blk
public import proofs.«01_k».proof.Proof.Scr
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.Kernel.Val
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the kernel with its three result arrays named -/

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the outputs' at `O7`, `O8`, `O9`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => O7 (iblk m c 0 t) (iblk m c 1 t) (iblk m c 2 t) (iblk m c 3 t) (iblk m c 4 t) (iblk m c 5 t) (iblk m c 6 t)
    | ⟨8, _⟩ => O8 (iblk m c 0 t) (iblk m c 1 t) (iblk m c 2 t) (iblk m c 3 t) (iblk m c 4 t) (iblk m c 5 t) (iblk m c 6 t)
    | ⟨9, _⟩ => O9 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = O7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = O8 (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = O9 (iblk m c 0 t) (iblk m c 1 t) (iblk m c 2 t) (iblk m c 3 t) (iblk m c 4 t) (iblk m c 5 t) (iblk m c 6 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨%ds0, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRunV c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t)).2.2.2 ds0 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  iintro ⟨H0, H1, H2, H3, H4, H5, H6, ⟨%e7, H7⟩, ⟨%e8, H8⟩, ⟨%e9, H9⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact read7 _ _ c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t)
  isplitl [H8]
  · unfold owns; iexists _; isplitr
    swap; · iexact H8
    ipureintro; exact read8 _ _ c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t)
  unfold owns; iexists _; isplitr
  swap; · iexact H9
  ipureintro; exact read9 _ _ c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) ds0

/-- The body table's row at point `t`'s slots is the body as `bodyAt0` spells it. -/
theorem defs₀_rowV (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_rowV]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v3_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v3_2) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 7 cfg0.N
      ∧ r.2.mem ((c : Thread nD τ).loc main_v3_1) = (dats m 0 c).arrAt 8 cfg0.N
      ∧ r.2.mem ((c : Thread nD τ).loc main_v3_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Kernel.Val

end
-- ==== Proof.Transfer.lean ====
module

public import proofs.«01_k».proof.Defs
public import proofs.«01_k».proof.Proof.Gen.Kernel.Frame
public import proofs.«01_k».proof.Proof.Gen.KernelIdeal.Frame
public import proofs.«01_k».proof.Proof.Run

@[expose] public section
set_option maxRecDepth 16384
noncomputable section
open Idealize.ShloMosaic Idealize.SL.Sem
namespace Cert
set_option maxHeartbeats 0
set_option backward.isDefEq.respectTransparency.types false
/-- The kernel's body does not depend on the name of the program. -/
theorem cc0_eq : @Kernel.cc0_gated_delta_decode Ideal _ _ = @KernelIdeal.cc0_gated_delta_decode Ideal _ _ := by
  unfold Kernel.cc0_gated_delta_decode KernelIdeal.cc0_gated_delta_decode; rfl
/-- Nor do its threads. -/
theorem defs0_eq : Kernel.defs₀ (F := Ideal) = KernelIdeal.defs₀ (F := Ideal) := by
  unfold Kernel.defs₀ KernelIdeal.defs₀
  rw [← cc0_eq]
  refine congrArg Defs.onTc (funext fun l => ?_)
  match l with
  | ⟨0, _⟩ => funext ⟨t, s⟩; rfl
  | ⟨n + 1, h⟩ => exact absurd h (Nat.not_lt.2 (Nat.le_add_left _ _))
/-- Nor does the whole family of definitions. -/
theorem defs_eq : Kernel.defs (F := Ideal) = KernelIdeal.defs (F := Ideal) := by
  unfold Kernel.defs KernelIdeal.defs
  rw [← defs0_eq]; rfl
/-- Nor does the host program. -/
theorem main_eq : Kernel.main (F := Ideal) = KernelIdeal.main (F := Ideal) := by
  unfold Kernel.main KernelIdeal.main
  rfl
/-- What a run of the kernel satisfies over the extended reals, a run of the ideal kernel satisfies. -/
theorem transfer (m : (ℓ : Loc Cert.KernelIdeal.nD Cert.KernelIdeal.τ Cert.KernelIdeal.sig) → Buf (Elt Ideal) ℓ) (g : Dev Cert.KernelIdeal.nD → PrngReg)
  (Q) (h : θ_run (Cert.Kernel.defs (F := Ideal)) (onTc (τ := Cert.Kernel.τ) (Cert.Kernel.main (F := Ideal))) ⟨m, fun _ => 0, g⟩ Q) :
  θ_run (Cert.KernelIdeal.defs (F := Ideal)) (onTc (τ := Cert.KernelIdeal.τ) (Cert.KernelIdeal.main (F := Ideal))) ⟨m, fun _ => 0, g⟩ Q := by
  rw [← defs_eq, ← main_eq]; exact h
/-- The ideal kernel's frame, from the kernel's. -/
theorem kframe (m g) : (∀ _ : True,     θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)) :=
  fun _ => transfer m g _ (Cert.Kernel.Val.frame (F := Ideal) m g)
end Cert
-- ==== Proof.Spec.lean ====
module

public import Idealize.ShloMosaic.Lib.Pointwise

@[expose] public section

noncomputable section

namespace Cert.Step

open Idealize.ShloMosaic

/-- The numbers of one batch element: keys and queries by value head, values, log-decays, betas, scales, codes. The
    keys and queries are normalised, so they are real whatever the arguments hold; the rest may be infinite. -/
structure Step where
  K : Fin 8 → Fin 128 → ℝ
  Q : Fin 8 → Fin 128 → ℝ
  V : Fin 8 → Fin 256 → EReal
  G : Fin 8 → EReal
  B : Fin 8 → EReal
  S : Fin 8 → Fin 128 → EReal
  C : Fin 8 → Fin 128 → Fin 256 → EReal

/-- One over the largest code, as its f32 pattern reads. -/
def c0 : ℝ := (Ideal.ofBits .f32 0x3B124925#32).toReal

/-- An extended real that is a real number. -/
def IsNum (x : EReal) : Prop := ∃ r : ℝ, x = (r : EReal)

namespace Step

variable (D : Step)

/-- The decay. -/
def a (h : Fin 8) : EReal := Ideal.exp (D.G h)
/-- The state against the key. -/
def kv (h : Fin 8) (c : Fin 256) : EReal := ∑ d, (D.K h d : EReal) * (D.S h d * D.C h d c)
/-- The state against the query. -/
def qs (h : Fin 8) (c : Fin 256) : EReal := ∑ d, (D.Q h d : EReal) * (D.S h d * D.C h d c)
/-- The query against the key. -/
def qk (h : Fin 8) : ℝ := ∑ d, D.Q h d * D.K h d
/-- What the step writes. -/
def dl (h : Fin 8) (c : Fin 256) : EReal := D.B h * (D.V h c - D.a h * D.kv h c)
/-- The output. -/
def o (h : Fin 8) (c : Fin 256) : EReal := D.a h * D.qs h c + (D.qk h : EReal) * D.dl h c
/-- The new state. -/
def s (h : Fin 8) (d : Fin 128) (c : Fin 256) : EReal := D.a h * (D.S h d * D.C h d c) + (D.K h d : EReal) * D.dl h c
/-- No entry of a row of the new state is infinite. -/
def num (h : Fin 8) (d : Fin 128) : Prop := ∀ c, IsNum (D.s h d c)
/-- The new state as a real number. -/
def r (h : Fin 8) (d : Fin 128) (c : Fin 256) : ℝ := (D.s h d c).toReal
/-- The largest entry of a row of the new state. -/
def mx (h : Fin 8) (d : Fin 128) : ℝ := Finset.univ.sup' ⟨0, Finset.mem_univ _⟩ fun c => |D.r h d c|
/-- The exponent of a row's scale. -/
def e (h : Fin 8) (d : Fin 128) : ℝ := if D.mx h d = 0 then 0 else (⌊Real.log (D.mx h d * c0) / Real.log 2⌋ : ℝ) + 1
open Classical in
/-- A row's scale: a power of two, and infinite when an entry is. -/
def sc (h : Fin 8) (d : Fin 128) : EReal := if D.num h d then (((2 : ℝ) ^ D.e h d : ℝ) : EReal) else ⊤
open Classical in
/-- An entry over its row's scale. -/
def qt (h : Fin 8) (d : Fin 128) (c : Fin 256) : EReal :=
  if D.num h d then ((D.r h d c * (2 : ℝ) ^ (-D.e h d) : ℝ) : EReal) else 0
/-- A code: the entry over its row's scale, clipped at the largest code. -/
def cd (h : Fin 8) (d : Fin 128) (c : Fin 256) : EReal :=
  min (Ideal.ofBits .f32 0x43E00000#32) (max (Ideal.ofBits .f32 0xC3E00000#32) (D.qt h d c))

/-- A number is its real value. -/
theorem coe_toReal {x : EReal} (h : IsNum x) : x = (x.toReal : EReal) := by
  obtain ⟨r, rfl⟩ := h; rw [EReal.toReal_coe]

/-- An entry of a row of numbers. -/
theorem s_r {h : Fin 8} {d : Fin 128} (hn : D.num h d) (c : Fin 256) : D.s h d c = (D.r h d c : EReal) := coe_toReal (hn c)

/-- No entry of a row is larger than its largest. -/
theorem le_mx (h : Fin 8) (d : Fin 128) (c : Fin 256) : |D.r h d c| ≤ D.mx h d :=
  Finset.le_sup' (fun c => |D.r h d c|) (Finset.mem_univ c)

/-- The largest absolute value is nonnegative. -/
theorem mx_nonneg (h : Fin 8) (d : Fin 128) : 0 ≤ D.mx h d := (abs_nonneg _).trans (D.le_mx h d 0)

end Step

/-! ## Extended reals -/

/-- The constants the programs name, as numbers. -/
theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_c0_pos : ∃ r : ℝ, 0 < r ∧ Ideal.ofBits .f32 0x3B124925#32 = (r : EReal) := by
  refine ⟨_, ?_, by simp [Ideal.ofBits, Ideal.ieee, -EReal.coe_mul]; rfl⟩
  positivity

theorem ofBits_c0 : Ideal.ofBits .f32 0x3B124925#32 = (c0 : EReal) := by
  obtain ⟨r, _, h⟩ := ofBits_c0_pos
  rw [c0, h]; rfl

theorem c0_pos : 0 < c0 := by
  obtain ⟨r, hr, h⟩ := ofBits_c0_pos
  rw [c0, h]; exact hr

theorem ofBits_eps : ∃ r : ℝ, 0 < r ∧ Ideal.ofBits .f32 0x358637BD#32 = (r : EReal) := by
  refine ⟨_, ?_, by simp [Ideal.ofBits, Ideal.ieee, -EReal.coe_mul]; rfl⟩
  positivity

theorem ofBits_q : ∃ r : ℝ, Ideal.ofBits .f32 0x3DB504F3#32 = (r : EReal) :=
  ⟨_, by simp [Ideal.ofBits, Ideal.ieee, -EReal.coe_mul]; rfl⟩

theorem ofBits_big : ∃ r : ℝ, Ideal.ofBits .f32 0x7E800000#32 = (r : EReal) :=
  ⟨_, by simp [Ideal.ofBits, Ideal.ieee, -EReal.coe_mul]; rfl⟩

theorem ofBits_bot : Ideal.ofBits .f32 0xFF800000#32 = (⊥ : EReal) := by
  simp [Ideal.ofBits, Ideal.ieee]

/-- A sum of real numbers. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a s ha ih => rw [Finset.sum_insert ha, Finset.sum_insert ha, ih, EReal.coe_add]

/-- A square is nonnegative. -/
theorem sq_nonneg' (x : EReal) : 0 ≤ x * x := by
  induction x using EReal.rec with
  | bot => simp
  | top => simp
  | coe r => exact_mod_cast mul_self_nonneg r

/-- An entry over the norm of its row is finite, whatever the row holds. -/
theorem norm_real {ι : Type} [Fintype ι] (x : ι → EReal) (d : ι) :
    ∃ r : ℝ, x d * Ideal.rsqrt (∑ j, x j * x j + Ideal.ofBits .f32 0x358637BD#32) = (r : EReal) := by
  obtain ⟨ε, hε, he⟩ := ofBits_eps
  rw [he]
  by_cases hfin : ∀ j, ∃ r : ℝ, x j = r
  · choose f hf using hfin
    have hs : ∑ j, x j * x j = ((∑ j, f j * f j : ℝ) : EReal) := by
      rw [← coe_sum]; exact Finset.sum_congr rfl fun j _ => by rw [hf, EReal.coe_mul]
    have hp : 0 < ∑ j, f j * f j + ε := by
      have := Finset.sum_nonneg (s := Finset.univ) fun j _ => mul_self_nonneg (f j)
      linarith
    rw [hs, ← EReal.coe_add, Ideal.rsqrt_coe, if_neg (not_lt.mpr hp.le), if_neg hp.ne', hf, ← EReal.coe_mul]
    exact ⟨_, rfl⟩
  · push Not at hfin
    obtain ⟨j, hj⟩ := hfin
    have hjj : x j * x j = ⊤ := by
      cases h : x j using EReal.rec with
      | bot => simp
      | top => simp
      | coe r => exact absurd h (hj r)
    have hs : ∑ j, x j * x j = ⊤ := by
      refine top_le_iff.mp ?_
      rw [← hjj]
      exact Finset.single_le_sum (f := fun j => x j * x j) (fun i _ => sq_nonneg' (x i)) (Finset.mem_univ j)
    rw [hs, EReal.top_add_coe, Ideal.rsqrt_top, mul_zero]
    exact ⟨0, rfl⟩

/-- The largest absolute value of finitely many numbers. -/
theorem fold_max {n : ℕ} (f : Fin (n + 1) → ℝ) (g : Fin (n + 1) → EReal) (hg : ∀ i, g i = (f i : EReal)) :
    Finset.fold max (Ideal.ofBits .f32 0xFF800000#32) (fun i => (FloatOps.absf (F := Ideal) (φ := .f32) (g i) : EReal)) Finset.univ
      = ((Finset.univ.sup' ⟨0, Finset.mem_univ _⟩ fun i => |f i| : ℝ) : EReal) := by
  have ha : ∀ i, (FloatOps.absf (F := Ideal) (φ := .f32) (g i) : EReal) = ((|f i| : ℝ) : EReal) := fun i => by
    rw [Ideal.absf_def, hg, ← EReal.coe_neg]
    exact (EReal.coe_strictMono.monotone.map_max).symm
  simp only [ha]
  rw [ofBits_bot]
  refine le_antisymm ?_ ?_
  · rw [Finset.fold_max_le]
    exact ⟨bot_le, fun i _ => EReal.coe_le_coe_iff.mpr (Finset.le_sup' (fun i => |f i|) (Finset.mem_univ i))⟩
  · obtain ⟨i, hi, hm⟩ := Finset.exists_mem_eq_sup' (s := Finset.univ) ⟨(0 : Fin (n + 1)), Finset.mem_univ _⟩ fun i => |f i|
    rw [hm, Finset.le_fold_max]
    exact .inr ⟨i, hi, le_rfl⟩

/-- The largest power of two at most `x`, and 0 at 0. -/
def pw (x : ℝ) : ℝ := if 0 < x then (2 : ℝ) ^ ((⌊Real.log x / Real.log 2⌋ : ℤ) : ℝ) else 0

/-- The power of two of a positive number is positive. -/
theorem pw_pos {x : ℝ} (h : 0 < x) : 0 < pw x := by
  rw [pw, if_pos h]; positivity

/-- A quotient of real numbers. -/
theorem div_real (x y : ℝ) (h : y ≠ 0) : Ideal.div (x : EReal) (y : EReal) = ((x / y : ℝ) : EReal) := by
  rw [Ideal.div_coe h, ← EReal.coe_mul]; congr 1; ring

/-- The whole part of the binary logarithm. -/
theorem log2_real {x : ℝ} (h : 0 < x) :
    Ideal.liftRound Int.floor (Ideal.div (Ideal.log (x : EReal)) (Ideal.log (Ideal.ofBits .f32 0x40000000#32)))
      = (((⌊Real.log x / Real.log 2⌋ : ℤ) : ℝ) : EReal) := by
  have h2 : Real.log 2 ≠ 0 := (Real.log_pos (by norm_num)).ne'
  rw [ofBits_two, Ideal.log_coe, Ideal.log_coe, if_neg (not_le.mpr h), if_neg (by norm_num), div_real _ _ h2, Ideal.liftRound_coe]

/-- The power of two, as both programs spell it. -/
theorem pw_real (x : ℝ) :
    (if 0 < (x : EReal) then (FloatOps.exp2 (F := Ideal) (φ := .f32)
        (Ideal.liftRound Int.floor (Ideal.div (Ideal.log (x : EReal)) (Ideal.log (Ideal.ofBits .f32 0x40000000#32)))) : EReal)
      else 0) = ((pw x : ℝ) : EReal) := by
  by_cases h : 0 < x
  · rw [if_pos (EReal.coe_pos.mpr h), log2_real h, pw, if_pos h]; rfl
  · rw [if_neg (fun k => h (EReal.coe_pos.mp k)), pw, if_neg h]; rfl

/-- The power of two of any extended real, as both programs spell it. -/
def pwE (x : EReal) : EReal :=
  if 0 < x then (FloatOps.exp2 (F := Ideal) (φ := .f32)
    (Ideal.liftRound Int.floor (Ideal.div (Ideal.log x) (Ideal.log (Ideal.ofBits .f32 0x40000000#32)))) : EReal) else 0

/-- Of a real number. -/
theorem pwE_coe (x : ℝ) : pwE (x : EReal) = ((pw x : ℝ) : EReal) := pw_real x

/-- The binary logarithm of infinity. -/
theorem log2_top :
    Ideal.liftRound Int.floor (Ideal.div (Ideal.log ⊤) (Ideal.log (Ideal.ofBits .f32 0x40000000#32))) = ⊤ := by
  have h2 : 0 < Real.log 2 := Real.log_pos (by norm_num)
  rw [ofBits_two, Ideal.log_top, Ideal.log_coe, if_neg (by norm_num), Ideal.div_coe h2.ne',
    EReal.top_mul_coe_of_pos (by positivity), Ideal.liftRound_top]

/-- Of infinity. -/
theorem pwE_top : pwE ⊤ = ⊤ := by
  rw [pwE, if_pos EReal.zero_lt_top, log2_top]; rfl

/-- A sum of two is a number when both are. -/
theorem isNum_add {x y : EReal} : IsNum (x + y) ↔ IsNum x ∧ IsNum y := by
  constructor
  · rintro ⟨r, hr⟩
    induction x using EReal.rec with
    | bot => simp at hr
    | top =>
      induction y using EReal.rec with
      | bot => simp at hr
      | top => simp at hr
      | coe y => rw [EReal.top_add_coe] at hr; exact absurd hr (EReal.top_ne_coe r)
    | coe x =>
      induction y using EReal.rec with
      | bot => simp at hr
      | top => rw [EReal.coe_add_top] at hr; exact absurd hr (EReal.top_ne_coe r)
      | coe y => exact ⟨⟨x, rfl⟩, ⟨y, rfl⟩⟩
  · rintro ⟨⟨x, rfl⟩, ⟨y, rfl⟩⟩; exact ⟨x + y, rfl⟩

/-- Every term of a sum that is a number is one. -/
theorem isNum_of_sum {ι : Type} (t : Finset ι) (f : ι → EReal) (h : IsNum (∑ i ∈ t, f i)) : ∀ i ∈ t, IsNum (f i) := by
  classical
  induction t using Finset.induction_on with
  | empty => simp
  | insert a s ha ih =>
    rw [Finset.sum_insert ha, isNum_add] at h
    intro i hi
    rcases Finset.mem_insert.mp hi with rfl | hi
    · exact h.1
    · exact ih h.2 i hi

/-- A nonzero multiple is a number only of a number. -/
theorem isNum_of_mul {k : ℝ} (hk : k ≠ 0) {x : EReal} (h : IsNum ((k : EReal) * x)) : IsNum x := by
  obtain ⟨r, hr⟩ := h
  refine ⟨k⁻¹ * r, ?_⟩
  rw [EReal.coe_mul, ← hr, ← mul_assoc, ← EReal.coe_mul, inv_mul_cancel₀ hk, EReal.coe_one, one_mul]

/-- The largest absolute value is infinite when an entry is. -/
theorem fold_top {n : ℕ} (g : Fin (n + 1) → EReal) (i : Fin (n + 1)) (hi : ¬ IsNum (g i)) :
    Finset.fold max (Ideal.ofBits .f32 0xFF800000#32) (fun i => (FloatOps.absf (F := Ideal) (φ := .f32) (g i) : EReal)) Finset.univ = ⊤ := by
  refine top_le_iff.mp ((Finset.le_fold_max _).mpr (.inr ⟨i, Finset.mem_univ i, ?_⟩))
  rw [Ideal.absf_def]
  cases h : g i using EReal.rec with
  | bot => simp
  | top => simp
  | coe r => exact absurd ⟨r, h⟩ hi

/-- The mantissa of a decay is a positive number, and times its power of two it is the decay. -/
theorem mant (x : EReal) (hx : 0 ≤ x) :
    ∃ m : ℝ, 0 < m ∧ (if x = pwE x then 1 else Ideal.div x (pwE x)) = (m : EReal) ∧ pwE x * (m : EReal) = x := by
  by_cases h : x = pwE x
  · exact ⟨1, one_pos, by rw [if_pos h]; rfl, by rw [EReal.coe_one, mul_one, ← h]⟩
  · rw [if_neg h]
    induction x using EReal.rec with
    | bot => simp at hx
    | top => exact absurd pwE_top.symm h
    | coe x =>
      have h0 : 0 < x := by
        refine lt_of_le_of_ne (EReal.coe_nonneg.mp hx) fun k => h ?_
        rw [pwE_coe, ← k, pw, if_neg (lt_irrefl _)]
      have hp := pw_pos h0
      refine ⟨x / pw x, div_pos h0 hp, ?_, ?_⟩
      · rw [pwE_coe, div_real _ _ hp.ne']
      · rw [pwE_coe, ← EReal.coe_mul]; congr 1; field_simp

/-- A decay is not negative. -/
theorem exp_nonneg (x : EReal) : 0 ≤ Ideal.exp x := by
  induction x using EReal.rec with
  | bot => simp
  | top => simp
  | coe x => rw [Ideal.exp_coe]; exact_mod_cast (Real.exp_pos x).le

/-! ## The numbers of a batch element, from the arrays -/

/-- An entry of a row over the norm of the row. -/
def nrm (x : Fin 128 → EReal) (d : Fin 128) : EReal :=
  x d * Ideal.rsqrt (∑ j, x j * x j + Ideal.ofBits .f32 0x358637BD#32)

/-- A normalised entry is a real number. -/
theorem nrm_coe (x : Fin 128 → EReal) (d : Fin 128) : nrm x d = ((nrm x d).toReal : EReal) := by
  obtain ⟨r, h⟩ := norm_real x d
  rw [nrm, h, EReal.toReal_coe]

/-- So is a scaled one. -/
theorem nrmq_coe (x : Fin 128 → EReal) (d : Fin 128) :
    nrm x d * Ideal.ofBits .f32 0x3DB504F3#32 = ((nrm x d * Ideal.ofBits .f32 0x3DB504F3#32).toReal : EReal) := by
  obtain ⟨r, h⟩ := norm_real x d
  obtain ⟨q, hq⟩ := ofBits_q
  rw [nrm, h, hq, ← EReal.coe_mul, EReal.toReal_coe]

/-- The key head of a value head. -/
def kh (h : Fin 8) : Fin 4 := ⟨h / 2, by omega⟩

section
variable (A0 A1 : (⟨4, ![500, 1, 4, 128]⟩ : Shape).Idx → EReal) (A2 : (⟨4, ![500, 1, 8, 256]⟩ : Shape).Idx → EReal)
  (A3 A4 : (⟨3, ![500, 1, 8]⟩ : Shape).Idx → EReal) (A5 : (⟨4, ![500, 8, 128, 256]⟩ : Shape).Idx → EReal)
  (A6 : (⟨3, ![500, 8, 128]⟩ : Shape).Idx → EReal)

/-- The numbers of batch element `n`. -/
def of (n : Fin 500) : Step where
  K h d := (nrm (fun d => A1 (ix4 n 0 (kh h) d)) d).toReal
  Q h d := (nrm (fun d => A0 (ix4 n 0 (kh h) d)) d * Ideal.ofBits .f32 0x3DB504F3#32).toReal
  V h c := A2 (ix4 n 0 h c)
  G h := A3 (ix3 n 0 h)
  B h := A4 (ix3 n 0 h)
  S h d := A6 (ix3 n h d)
  C h d c := A5 (ix4 n h d c)

/-- The outputs. -/
def G7 : (⟨3, ![500, 8, 256]⟩ : Shape).Idx → EReal := fun j => (of A0 A1 A2 A3 A4 A5 A6 (j 0)).o (j 1) (j 2)
/-- The new codes. -/
def G8 : (⟨4, ![500, 8, 128, 256]⟩ : Shape).Idx → EReal := fun j => (of A0 A1 A2 A3 A4 A5 A6 (j 0)).cd (j 1) (j 2) (j 3)
/-- The new scales. -/
def G9 : (⟨3, ![500, 8, 128]⟩ : Shape).Idx → EReal := fun j => (of A0 A1 A2 A3 A4 A5 A6 (j 0)).sc (j 1) (j 2)

end

end Cert.Step

end
-- ==== Proof.KVal.lean ====
module

public import proofs.«01_k».proof.Proof.Out
public import proofs.«01_k».proof.Proof.Spec

@[expose] public section

set_option maxRecDepth 16384

noncomputable section

namespace Cert.Kernel.Val

open Idealize.ShloMosaic Idealize.ShloMosaic.TcCoe
open Cert.Kernel.Facts₀ Cert.Kernel.Facts

/-- A select on an equality. -/
theorem sel_eq {α : Type} {w : ℕ} (a b : BitVec w) (x y : α) :
    Scalar.select (IntOp.cmpi .eq a b) x y = if a = b then x else y := by
  by_cases h : a = b
  · subst h; simp [Scalar.select, IntOp.cmpi]
  · have hb : (a == b) = false := beq_eq_false_iff_ne.mpr h
    simp [Scalar.select, IntOp.cmpi, h, hb]

/-- The head of a row of the stacked keys and queries. -/
theorem head16_at (i : Fin 16) (d : Fin 128) : HEAD16 (ix2 i d) = BitVec.ofNat 32 (i % 8) := by
  pointwise [HEAD16]
  revert i; decide +kernel

/-- The head of a row of the stacked limbs. -/
theorem limbhead_at (i : Fin 32) (d : Fin 256) : LIMBHEAD (ix2 i d) = BitVec.ofNat 32 (i % 8) := by
  pointwise [LIMBHEAD]
  revert i; decide +kernel

/-- Small numbers as 32-bit words are equal when they are equal. -/
theorem ofNat_inj {a b : ℕ} (ha : a < 200) (hb : b < 200) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- The identity matrix. -/
theorem eye_at (i d : Fin 128) : EYE (F := Ideal) (ix2 i d) = if i = d then (1 : EReal) else 0 := by
  pointwise [EYE]
  by_cases h : i = d
  · subst h
    rw [if_pos rfl, show IntOp.cmpi .eq (BitVec.ofNat 32 (i : ℕ)) (BitVec.ofNat 32 (i : ℕ)) = 1#1 from by simp [IntOp.cmpi]]
    show (((BitVec.setWidth 32 1#1).toInt : ℝ) : EReal) = 1
    rw [show (BitVec.setWidth 32 1#1).toInt = 1 from by decide]; simp
  · have : BitVec.ofNat 32 (i : ℕ) ≠ BitVec.ofNat 32 (d : ℕ) := fun k =>
      h (Fin.ext ((ofNat_inj (by omega) (by omega)).mp k))
    have hb : (BitVec.ofNat 32 (i : ℕ) == BitVec.ofNat 32 (d : ℕ)) = false := beq_eq_false_iff_ne.mpr this
    rw [if_neg h, show IntOp.cmpi .eq (BitVec.ofNat 32 (i : ℕ)) (BitVec.ofNat 32 (d : ℕ)) = 0#1 from by simp [IntOp.cmpi, hb]]
    show (((BitVec.setWidth 32 0#1).toInt : ℝ) : EReal) = 0
    rw [show (BitVec.setWidth 32 0#1).toInt = 0 from by decide]; simp

open Cert.Step (kh)

/-- The key head's row, at each value head. -/
theorem rows_at (x : FVec Ideal S4x128 .f32) (h : Fin 8) (d : Fin 128) : ROWS x (ix2 h d) = x (ix2 (kh h) d) := by
  pointwise [ROWS]
  fin_cases h <;> rfl

/-- A normalised key. -/
theorem kn_at (x : Vec Ideal S1x4x128 .bf16) (i : Fin 4) (d : Fin 128) :
    KN x (ix2 i d) = x (ix3 0 i d) * Ideal.rsqrt (∑ j, x (ix3 0 i j) * x (ix3 0 i j) + Ideal.ofBits .f32 0x358637BD#32) := by
  pointwise [KN, L2]

/-- A normalised query. -/
theorem qn_at (x : Vec Ideal S1x4x128 .bf16) (i : Fin 4) (d : Fin 128) :
    QN x (ix2 i d) = x (ix3 0 i d) * Ideal.rsqrt (∑ j, x (ix3 0 i j) * x (ix3 0 i j) + Ideal.ofBits .f32 0x358637BD#32)
      * Ideal.ofBits .f32 0x3DB504F3#32 := by
  pointwise [QN, L2]

/-- A row-wise product. -/
theorem qk_at (x y : FVec Ideal S8x128 .f32) (h : Fin 8) :
    QK x y (ix2 h 0) = ∑ d, (x (ix2 h d) * y (ix2 h d) : EReal) := by
  pointwise [QK]

/-- The scales. -/
theorem scl_at (x : Vec Ideal S1x8x128 .f32) (h : Fin 8) (d : Fin 128) : SCL x (ix2 h d) = x (ix3 0 h d) := by
  pointwise [SCL]

/-- A row as a column. -/
theorem col_at (x : Vec Ideal S1x1x8 .f32) (h : Fin 8) : COL x (ix2 h 0) = x (ix3 0 0 h) := by
  pointwise [COL]
  simp only [sel_eq]
  rw [Finset.sum_eq_single h]
  · rw [if_pos rfl]
  · intro b _ hb
    rw [if_neg]
    exact fun k => hb (Fin.ext ((ofNat_inj (by omega) (by omega)).mp k)).symm
  · simp

/-- The decay. -/
theorem ea_at (x : Vec Ideal S1x1x8 .f32) (h : Fin 8) : EA x (ix2 h 0) = Ideal.exp (x (ix3 0 0 h)) := by
  pointwise [EA]
  rw [col_at]

/-- The stacked rows, kept at one head. -/
theorem mask_at (l : FVec Ideal S16x128 .f32) (h : ℕ) (hh : h < 8) (i : Fin 16) (d : Fin 128) :
    MASK l (BitVec.ofNat 32 h) (ix2 i d) = if (i : ℕ) % 8 = h then l (ix2 i d) else (0 : EReal) := by
  pointwise [MASK]
  rw [sel_eq, head16_at]
  exact if_congr (ofNat_inj (by omega) (by omega)) rfl rfl

/-- The product with two heads' codes. -/
theorem pair_at (l : FVec Ideal S16x128 .f32) (a b : ℕ) (ha : a < 8) (hb : b < 8) (c : Vec Ideal S1x2x128x256 .fp8e4m3)
    (i : Fin 16) (d : Fin 256) :
    PAIR (MASK l (BitVec.ofNat 32 a)) (MASK l (BitVec.ofNat 32 b)) c (ix2 i d)
      = (if (i : ℕ) % 8 = a then ∑ x, (l (ix2 i x) * c (ix4 0 0 x d) : EReal) else 0)
        + (if (i : ℕ) % 8 = b then ∑ x, (l (ix2 i x) * c (ix4 0 1 x d) : EReal) else 0) := by
  pointwise [PAIR]
  simp only [mask_at l a ha, mask_at l b hb]
  congr 1
  · split_ifs
    · refine Finset.sum_congr rfl fun x _ => ?_
      congr 1
      exact congrArg₂ (fun a b => c (ix4 0 a b d)) (Fin.ext (by show (x : ℕ) / 128 = 0; omega))
        (Fin.ext (by show (x : ℕ) % 128 = x; omega))
    · simp
  · split_ifs
    · refine Finset.sum_congr rfl fun x _ => ?_
      congr 1
      exact congrArg₂ (fun a b => c (ix4 0 a b d)) (Fin.ext (by show (128 + (x : ℕ)) / 128 = 1; omega))
        (Fin.ext (by show (128 + (x : ℕ)) % 128 = x; omega))
    · simp

/-- The product with all heads' codes: each row meets its own head. -/
theorem proj_at (l : FVec Ideal S16x128 .f32) (c0 c2 c4 c6 : Vec Ideal S1x2x128x256 .fp8e4m3)
    (C : Fin 8 → Fin 128 → Fin 256 → EReal)
    (h0 : ∀ (j : Fin 2) x d, c0 (ix4 0 j x d) = C ⟨0 + j, by omega⟩ x d)
    (h2 : ∀ (j : Fin 2) x d, c2 (ix4 0 j x d) = C ⟨2 + j, by omega⟩ x d)
    (h4 : ∀ (j : Fin 2) x d, c4 (ix4 0 j x d) = C ⟨4 + j, by omega⟩ x d)
    (h6 : ∀ (j : Fin 2) x d, c6 (ix4 0 j x d) = C ⟨6 + j, by omega⟩ x d) (i : Fin 16) (n : Fin 8) (hn : (i : ℕ) % 8 = n) (d : Fin 256) :
    PROJ l c0 c2 c4 c6 (ix2 i d) = ∑ x, (l (ix2 i x) * C n x d : EReal) := by
  pointwise [PROJ]
  rw [pair_at l 0 1 (by omega) (by omega), pair_at l 2 3 (by omega) (by omega), pair_at l 4 5 (by omega) (by omega),
    pair_at l 6 7 (by omega) (by omega)]
  simp only [h0, h2, h4, h6, hn]
  fin_cases n <;> simp

/-- The upper half of the stacked rows. -/
theorem lhs_lo (x y z : FVec Ideal S8x128 .f32) (h : Fin 8) (d : Fin 128) :
    LHS x y z (ix2 ⟨h, by omega⟩ d) = (x (ix2 h d) * z (ix2 h d) : EReal) := by
  pointwise [LHS]

/-- The lower half of the stacked rows. -/
theorem lhs_hi (x y z : FVec Ideal S8x128 .f32) (h : Fin 8) (d : Fin 128) :
    LHS x y z (ix2 ⟨8 + h, by omega⟩ d) = (y (ix2 h d) * z (ix2 h d) : EReal) := by
  pointwise [LHS]

/-- The correction, entry by entry. -/
theorem delta_at (a bt : FVec Ideal S8x1 .f32) (p : FVec Ideal S16x256 .f32) (v : Vec Ideal S1x8x256 .bf16) (h : Fin 8) (c : Fin 256) :
    DELTA a bt p v (ix2 h c) = (bt (ix2 h 0) * (v (ix3 0 h c) - a (ix2 h 0) * p (ix2 ⟨h, by omega⟩ c)) : EReal) := by
  pointwise [DELTA]

/-- The output, entry by entry. -/
theorem out_at (a bt : FVec Ideal S8x1 .f32) (p : FVec Ideal S16x256 .f32) (v : FVec Ideal S8x256 .f32) (h : Fin 8) (c : Fin 256) :
    OUT a bt p v (ix3 0 h c) = (a (ix2 h 0) * p (ix2 ⟨8 + h, by omega⟩ c) + bt (ix2 h 0) * v (ix2 h c) : EReal) := by
  pointwise [OUT]

/-- The scale times the decay's power. -/
theorem sc2_at (x : FVec Ideal S8x128 .f32) (am : FVec Ideal S8x1 .f32) (h : Fin 8) (d : Fin 128) :
    SC2 x am (ix2 h d) = (x (ix2 h d) * am (ix2 h 0) : EReal) := by
  pointwise [SC2]

/-- The power of two of an entry. -/
theorem pw_at (s : Shape) (x : FVec Ideal s .f32) (i : s.Idx) : PW s x i = Step.pwE (x i) := by
  pointwise [PW]
  rfl

/-- The mantissa of a decay. -/
theorem am_at (g : Vec Ideal S1x1x8 .f32) (h : Fin 8) : AM g (ix2 h 0)
    = (if EA g (ix2 h 0) = Step.pwE (EA g (ix2 h 0)) then 1 else Ideal.div (EA g (ix2 h 0)) (Step.pwE (EA g (ix2 h 0))) : EReal) := by
  pointwise [AM, AP]
  simp only [pw_at]

/-- The keys' columns and the limbs' rows: the product has the three limbs of each head's row, and zeros. -/
theorem limb_at (kn : FVec Ideal S8x128 .f32) (dl : FVec Ideal S8x256 .f32) (am : FVec Ideal S8x1 .f32) (i : Fin 128) (d : Fin 256)
    (h : Fin 8) (b : Fin 32) (hb : (b : ℕ) % 8 = h) (t : EReal) (ht : Ideal.div (dl (ix2 h d)) (am (ix2 h 0)) = t) :
    (KCOLS kn (ix2 i b) * LIMBS dl am (ix2 b d) : EReal)
      = if (b : ℕ) = h then kn (ix2 h i) * t else if (b : ℕ) = 8 + h then kn (ix2 h i) * (t - t)
        else if (b : ℕ) = 16 + h then kn (ix2 h i) * (t - t - (t - t)) else 0 := by
  subst ht
  have h0 : (h : ℕ) < 32 := by clear hb; omega
  have h1 : 8 + (h : ℕ) < 32 := by clear hb; omega
  have h2 : 16 + (h : ℕ) < 32 := by clear hb; omega
  have h3 : 24 + (h : ℕ) < 32 := by clear hb; omega
  have hc : (b = ⟨h, h0⟩ ∨ b = ⟨8 + h, h1⟩) ∨ (b = ⟨16 + h, h2⟩ ∨ b = ⟨24 + h, h3⟩) := by
    simp only [Fin.ext_iff]; omega
  rcases hc with (rfl | rfl) | (rfl | rfl)
  · rw [if_pos rfl]
    pointwise [KCOLS, LIMBS]
  · rw [if_neg (by simp only; omega), if_pos rfl]
    pointwise [KCOLS, LIMBS]
  · rw [if_neg (by simp only; omega), if_neg (by simp only; omega), if_pos rfl]
    pointwise [KCOLS, LIMBS]
    have e : (⟨16 + (h : ℕ) - 8 - 8, by omega⟩ : Fin 8) = h := Fin.ext (by simp only; omega)
    simp only [dif_neg (show ¬ 16 + (h : ℕ) < 8 by omega), dif_neg (show ¬ 16 + (h : ℕ) - 8 < 8 by omega),
      dif_pos (show 16 + (h : ℕ) - 8 - 8 < 8 by omega), e]
  · rw [if_neg (by simp only; omega), if_neg (by simp only; omega), if_neg (by simp only; omega)]
    pointwise [KCOLS, LIMBS]
    simp only [dif_neg (show ¬ 24 + (h : ℕ) < 8 by omega), dif_neg (show ¬ 24 + (h : ℕ) - 8 < 8 by omega),
      dif_neg (show ¬ 24 + (h : ℕ) - 8 - 8 < 8 by omega), mul_zero]

section
variable (row : FVec Ideal S1x128 .f32) (kn : FVec Ideal S8x128 .f32) (dl : FVec Ideal S8x256 .f32) (am : FVec Ideal S8x1 .f32)
    (c : Vec Ideal S1x1x128x256 .fp8e4m3) (h : Fin 8) (i : Fin 128) (d : Fin 256)

/-- The product of the diagonal and the limbs: the scaled codes, plus the limbs of one head. -/
theorem u_sum : U row (KCOLS kn) (LIMBS dl am) c (BitVec.ofNat 32 h) (ix2 i d)
      = (row (ix2 0 i) * c (ix4 0 0 i d)
        + ∑ b : Fin 32, if (b : ℕ) % 8 = h then KCOLS kn (ix2 i b) * LIMBS dl am (ix2 b d) else 0 : EReal) := by
  pointwise [U]
  congr 1
  · rw [Finset.sum_eq_single i]
    · rw [eye_at, if_pos rfl, one_mul]
    · intro b _ hb
      rw [eye_at, if_neg (Ne.symm hb), zero_mul, zero_mul]
    · simp
  · refine Finset.sum_congr rfl fun b _ => ?_
    rw [sel_eq, limbhead_at]
    by_cases hm : (b : ℕ) % 8 = h
    · rw [if_pos (congrArg _ hm), if_pos hm]
    · rw [if_neg (fun k => hm ((ofNat_inj (by omega) (by omega)).mp k)), if_neg hm]

/-- Where the limbs are numbers or the key is zero, the product is the scaled codes plus the key times the correction. -/
theorem u_at (hr : kn (ix2 h i) = (0 : EReal) ∨ Step.IsNum (Ideal.div (dl (ix2 h d)) (am (ix2 h 0)))) :
    U row (KCOLS kn) (LIMBS dl am) c (BitVec.ofNat 32 h) (ix2 i d)
      = (row (ix2 0 i) * c (ix4 0 0 i d) + kn (ix2 h i) * Ideal.div (dl (ix2 h d)) (am (ix2 h 0)) : EReal) := by
  rw [u_sum]
  congr 1
  have hz : (kn (ix2 h i) * (Ideal.div (dl (ix2 h d)) (am (ix2 h 0)) - Ideal.div (dl (ix2 h d)) (am (ix2 h 0))) : EReal) = 0
      ∧ (kn (ix2 h i) * (Ideal.div (dl (ix2 h d)) (am (ix2 h 0)) - Ideal.div (dl (ix2 h d)) (am (ix2 h 0))
        - (Ideal.div (dl (ix2 h d)) (am (ix2 h 0)) - Ideal.div (dl (ix2 h d)) (am (ix2 h 0)))) : EReal) = 0 := by
    rcases hr with hr | ⟨r, hr⟩
    · rw [hr, zero_mul, zero_mul]; exact ⟨rfl, rfl⟩
    · rw [hr, ← EReal.coe_sub, sub_self, ← EReal.coe_sub, sub_self, EReal.coe_zero, mul_zero]; exact ⟨rfl, rfl⟩
  rw [Finset.sum_eq_single (⟨h, by omega⟩ : Fin 32)]
  · have hh : (h : ℕ) % 8 = h := by omega
    rw [if_pos hh, limb_at kn dl am i d h _ hh _ rfl, if_pos rfl]
  · intro b _ hb
    have hb' : ¬ (b : ℕ) = h := fun k => hb (Fin.ext k)
    split_ifs with hm
    · rw [limb_at kn dl am i d h b hm _ rfl, if_neg hb', hz.1, hz.2]
      simp
    · rfl
  · simp

/-- Elsewhere it is infinite. -/
theorem u_inf {k : ℝ} (hk : kn (ix2 h i) = (k : EReal)) (h0 : k ≠ 0) (hr : ¬ Step.IsNum (Ideal.div (dl (ix2 h d)) (am (ix2 h 0)))) :
    ¬ Step.IsNum (U row (KCOLS kn) (LIMBS dl am) c (BitVec.ofNat 32 h) (ix2 i d)) := by
  rw [u_sum]
  intro hn
  have hh : (h : ℕ) % 8 = h := by omega
  have ht := Step.isNum_of_sum _ _ (Step.isNum_add.mp hn).2 (⟨h, by omega⟩ : Fin 32) (Finset.mem_univ _)
  rw [if_pos hh, limb_at kn dl am i d h _ hh _ rfl, if_pos rfl, hk] at ht
  exact hr (Step.isNum_of_mul h0 ht)

end

/-- The row maxima, times the mantissa over the largest code. -/
theorem x_at (u : FVec Ideal S128x256 .f32) (m : FVec Ideal S1x1 .f32) (i : Fin 128) (f : Fin 256 → ℝ)
    (h : ∀ c, u (ix2 i c) = (f c : EReal)) :
    X u m (ix2 i 0) = (((Finset.univ.sup' ⟨0, Finset.mem_univ _⟩ fun c => |f c| : ℝ) : EReal)
      * (m (ix2 0 0) * (Step.c0 : EReal)) : EReal) := by
  pointwise [X]
  rw [Step.fold_max f _ h, Step.ofBits_c0]

/-- Of a row with an infinite entry. -/
theorem x_top (u : FVec Ideal S128x256 .f32) (m : FVec Ideal S1x1 .f32) (i : Fin 128) (c : Fin 256) (h : ¬ Step.IsNum (u (ix2 i c)))
    (r : ℝ) (hr : 0 < r) (hm : m (ix2 0 0) = (r : EReal)) : X u m (ix2 i 0) = (⊤ : EReal) := by
  pointwise [X]
  rw [Step.fold_top (fun c => u (ix2 i c)) c h, Step.ofBits_c0, hm, ← EReal.coe_mul, EReal.top_mul_coe_of_pos (mul_pos hr Step.c0_pos)]

/-- The factor before rounding. -/
theorem inv_at (x : FVec Ideal S128x1 .f32) (m : FVec Ideal S1x1 .f32) (i : Fin 128) :
    INV x m (ix2 i 0) = (m (ix2 0 0) * (if Step.pwE (x (ix2 i 0)) = 0 then Ideal.ofBits .f32 0x7E800000#32
      else Ideal.div (Ideal.ofBits .f32 0x3F000000#32) (Step.pwE (x (ix2 i 0)))) : EReal) := by
  pointwise [INV]
  rw [pw_at]

/-- The clipped quotient. -/
theorem codes_at (u : FVec Ideal S128x256 .f32) (w : FVec Ideal S128x1 .f32) (i : Fin 128) (c : Fin 256) :
    CODES u w (ix4 0 0 i c) = (min (max (u (ix2 i c) * w (ix2 i 0)) (Ideal.ofBits .f32 0xC3E00000#32)) (Ideal.ofBits .f32 0x43E00000#32) : EReal) := by
  pointwise [CODES]

/-- The scale of a row. -/
theorem scales_at (y : Vec Ideal S128x128 .f32) (b : Fin 4) (h : Fin 8) (i : Fin 128) (r : EReal)
    (hy : y (ix2 i ⟨b * 8 + h, by omega⟩) = r) :
    SCALES y (ix3 b h i) = (if Step.pwE r = 0 then 1 else Step.pwE r * Ideal.ofBits .f32 0x40000000#32 : EReal) := by
  subst hy
  pointwise [SCALES]
  rw [pw_at]
  pointwise

end Cert.Kernel.Val

end
-- ==== Proof.KElem.lean ====
module

public import proofs.«01_k».proof.Proof.KVal

@[expose] public section

set_option maxRecDepth 16384

noncomputable section

namespace Cert.Step

open Idealize.ShloMosaic

namespace Step

variable (D : Step)

/-- The mantissa of the decay, as the kernel computes it. -/
def mE (h : Fin 8) : EReal := if D.a h = pwE (D.a h) then 1 else Ideal.div (D.a h) (pwE (D.a h))
/-- The mantissa of the decay. -/
def am (h : Fin 8) : ℝ := (D.mE h).toReal
/-- The new state over the mantissa of the decay. -/
def u (h : Fin 8) (d : Fin 128) (c : Fin 256) : ℝ := D.r h d c / D.am h
/-- The same, as the kernel computes it. -/
def uE (h : Fin 8) (d : Fin 128) (c : Fin 256) : EReal :=
  D.S h d * pwE (D.a h) * D.C h d c + (D.K h d : EReal) * Ideal.div (D.dl h c) (D.am h : EReal)

/-- The mantissa is a number. -/
theorem mE_eq (h : Fin 8) : D.mE h = (D.am h : EReal) := by
  obtain ⟨m, _, hm, _⟩ := mant (D.a h) (exp_nonneg _)
  rw [am, mE, hm, EReal.toReal_coe]
/-- Its mantissa is positive. -/
theorem am_pos (h : Fin 8) : 0 < D.am h := by
  obtain ⟨m, h0, hm, _⟩ := mant (D.a h) (exp_nonneg _)
  rw [am, mE, hm, EReal.toReal_coe]; exact h0
/-- The power of two times the mantissa is the decay. -/
theorem pw_am (h : Fin 8) : pwE (D.a h) * (D.am h : EReal) = D.a h := by
  obtain ⟨m, _, hm, ha⟩ := mant (D.a h) (exp_nonneg _)
  rw [am, mE, hm, EReal.toReal_coe]; exact ha

/-- What the step writes over the mantissa, times the mantissa. -/
theorem div_am (h : Fin 8) (x : EReal) : Ideal.div x (D.am h : EReal) * (D.am h : EReal) = x := by
  rw [Ideal.div_coe (D.am_pos h).ne', mul_assoc, ← EReal.coe_mul]
  rw [show ((1 : ℝ) / D.am h) * D.am h = 1 from one_div_mul_cancel (D.am_pos h).ne', EReal.coe_one, mul_one]

/-- The accumulated product times the mantissa is the new state. -/
theorem uE_am (h : Fin 8) (d : Fin 128) (c : Fin 256) : D.uE h d c * (D.am h : EReal) = D.s h d c := by
  rw [uE, mul_comm, EReal.left_distrib_of_nonneg_of_ne_top (EReal.coe_nonneg.mpr (D.am_pos h).le) (EReal.coe_ne_top _),
    mul_comm, mul_comm (D.am h : EReal), mul_assoc (D.K h d : EReal), div_am, s]
  congr 1
  rw [show D.S h d * pwE (D.a h) * D.C h d c * (D.am h : EReal) = D.S h d * D.C h d c * (pwE (D.a h) * (D.am h : EReal)) by
    ac_rfl, pw_am, mul_comm]

/-- Where the new state is a number. -/
theorem uE_num {h : Fin 8} {d : Fin 128} {c : Fin 256} (hn : IsNum (D.s h d c)) : D.uE h d c = (D.u h d c : EReal) := by
  have := div_am D h (D.uE h d c)
  rw [Ideal.div_coe (D.am_pos h).ne', mul_assoc, mul_comm _ (D.am h : EReal), ← mul_assoc, uE_am, coe_toReal hn, ← EReal.coe_mul] at this
  rw [← this, u, r, div_eq_mul_one_div (D.s h d c).toReal]

/-- Where it is infinite. -/
theorem uE_inf {h : Fin 8} {d : Fin 128} {c : Fin 256} (hn : ¬ IsNum (D.s h d c)) : ¬ IsNum (D.uE h d c) := by
  rintro ⟨r, hr⟩
  exact hn ⟨r * D.am h, by rw [← uE_am, hr, EReal.coe_mul]⟩

/-- The correction over the mantissa is a number when the correction is. -/
theorem div_num {h : Fin 8} {x : EReal} (hx : IsNum (Ideal.div x (D.am h : EReal))) : IsNum x := by
  obtain ⟨r, hr⟩ := hx
  exact ⟨r * D.am h, by rw [← D.div_am h x, hr, EReal.coe_mul]⟩

/-- An infinite correction against a nonzero key makes the new state infinite. -/
theorem s_inf {h : Fin 8} {d : Fin 128} {c : Fin 256} (hk : D.K h d ≠ 0) (hd : ¬ IsNum (Ideal.div (D.dl h c) (D.am h : EReal))) :
    ¬ IsNum (D.s h d c) := fun hs => by
  obtain ⟨r, hr⟩ := isNum_of_mul hk (isNum_add.mp hs).2
  exact hd (by rw [hr, div_real _ _ (D.am_pos h).ne']; exact ⟨_, rfl⟩)

/-- The product times the mantissa is the new state, as numbers. -/
theorem u_am (h : Fin 8) (d : Fin 128) (c : Fin 256) : D.u h d c * D.am h = D.r h d c :=
  div_mul_cancel₀ _ (D.am_pos h).ne'

/-- The row maximum of the product, scaled by the mantissa. -/
theorem mx_u (h : Fin 8) (d : Fin 128) :
    (Finset.univ.sup' ⟨0, Finset.mem_univ _⟩ fun c => |D.u h d c|) * D.am h = D.mx h d := by
  rw [Finset.comp_sup'_eq_sup'_comp (g := fun x : ℝ => x * D.am h) ⟨0, Finset.mem_univ _⟩
    (fun x y => max_mul_of_nonneg x y (D.am_pos h).le), mx]
  refine Finset.sup'_congr _ rfl fun c _ => ?_
  show |D.u h d c| * D.am h = |D.r h d c|
  rw [← D.u_am, abs_mul, abs_of_pos (D.am_pos h)]

/-- Half over the power of two, as a power. -/
theorem inv_half (x : ℝ) (hx : 0 < x) : 1 / 2 / pw x = (2 : ℝ) ^ (-((⌊Real.log x / Real.log 2⌋ : ℝ) + 1)) := by
  rw [pw, if_pos hx, Real.rpow_neg (by norm_num), Real.rpow_add (by norm_num), Real.rpow_one]
  have : (0 : ℝ) < (2 : ℝ) ^ ((⌊Real.log x / Real.log 2⌋ : ℤ) : ℝ) := by positivity
  field_simp

/-- Twice the power of two, as a power. -/
theorem pw_two (x : ℝ) (hx : 0 < x) : pw x * 2 = (2 : ℝ) ^ ((⌊Real.log x / Real.log 2⌋ : ℝ) + 1) := by
  rw [pw, if_pos hx, Real.rpow_add (by norm_num), Real.rpow_one]

/-- The kernel's multiplier of a row. -/
def w (h : Fin 8) (d : Fin 128) : ℝ :=
  D.am h * (if D.mx h d = 0 then (Ideal.ofBits .f32 0x7E800000#32).toReal else 1 / 2 / pw (D.mx h d * c0))

/-- The power is zero exactly on a zero row. -/
theorem pw_mx (h : Fin 8) (d : Fin 128) : pw (D.mx h d * c0) = 0 ↔ D.mx h d = 0 := by
  constructor
  · intro k
    by_contra hne
    exact (pw_pos (mul_pos (lt_of_le_of_ne (D.mx_nonneg h d) (Ne.symm hne)) c0_pos)).ne' k
  · intro k; rw [k, zero_mul, pw, if_neg (lt_irrefl _)]

/-- The quotient the kernel rounds is the new state over its scale. -/
theorem u_w (h : Fin 8) (d : Fin 128) (c : Fin 256) : D.u h d c * D.w h d = D.r h d c * (2 : ℝ) ^ (-D.e h d) := by
  rw [w, ← mul_assoc, D.u_am, e]
  by_cases hm : D.mx h d = 0
  · have : D.r h d c = 0 := abs_eq_zero.mp (le_antisymm (hm ▸ D.le_mx h d c) (abs_nonneg _))
    rw [this, zero_mul, zero_mul]
  · rw [if_neg hm, if_neg hm, inv_half _ (mul_pos (lt_of_le_of_ne (D.mx_nonneg h d) (Ne.symm hm)) c0_pos)]

/-- The row maximum over the largest code, as the kernel computes it. -/
def xE (h : Fin 8) (d : Fin 128) : EReal := by
  classical exact if D.num h d then ((D.mx h d * c0 : ℝ) : EReal) else ⊤

/-- The scale the kernel stores is the scale of the row. -/
theorem scale_eq (h : Fin 8) (d : Fin 128) :
    (if pwE (D.xE h d) = 0 then 1 else pwE (D.xE h d) * Ideal.ofBits .f32 0x40000000#32 : EReal) = D.sc h d := by
  rw [sc, xE]
  by_cases hn : D.num h d
  · rw [if_pos hn, if_pos hn, pwE_coe, e]
    by_cases hm : D.mx h d = 0
    · rw [if_pos (by rw [(D.pw_mx h d).mpr hm]; rfl), if_pos hm, Real.rpow_zero]; rfl
    · have hn : ¬ ((pw (D.mx h d * c0) : ℝ) : EReal) = 0 := fun k => hm ((D.pw_mx h d).mp (EReal.coe_eq_zero.mp k))
      rw [if_neg hn, if_neg hm, ofBits_two, ← EReal.coe_mul, pw_two _ (mul_pos (lt_of_le_of_ne (D.mx_nonneg h d) (Ne.symm hm)) c0_pos)]
  · rw [if_neg hn, if_neg hn, pwE_top, if_neg EReal.top_ne_zero, ofBits_two, EReal.top_mul_coe_of_pos (by norm_num)]

/-- The factor the kernel multiplies a row by before rounding. -/
def wE (h : Fin 8) (d : Fin 128) : EReal :=
  (D.am h : EReal) * (if pwE (D.xE h d) = 0 then Ideal.ofBits .f32 0x7E800000#32
    else Ideal.div (Ideal.ofBits .f32 0x3F000000#32) (pwE (D.xE h d)))

/-- Of a row of numbers. -/
theorem wE_num {h : Fin 8} {d : Fin 128} (hn : D.num h d) : D.wE h d = (D.w h d : EReal) := by
  obtain ⟨B, hB⟩ := ofBits_big
  rw [wE, w, xE, if_pos hn, pwE_coe]
  by_cases hm : D.mx h d = 0
  · rw [if_pos (by rw [(D.pw_mx h d).mpr hm]; rfl), if_pos hm, hB, EReal.toReal_coe, EReal.coe_mul]
  · have hp : pw (D.mx h d * c0) ≠ 0 := fun k => hm ((D.pw_mx h d).mp k)
    rw [if_neg (fun k => hp (EReal.coe_eq_zero.mp k)), if_neg hm, ofBits_half, div_real _ _ hp, EReal.coe_mul]

/-- Of a row with an infinite entry. -/
theorem wE_inf {h : Fin 8} {d : Fin 128} (hn : ¬ D.num h d) : D.wE h d = 0 := by
  rw [wE, xE, if_neg hn, pwE_top, if_neg EReal.top_ne_zero, Ideal.div, if_neg EReal.top_ne_zero, EReal.inv_top, mul_zero, mul_zero]

end Step

end Cert.Step

namespace Cert.Kernel.Val

open Idealize.ShloMosaic Idealize.ShloMosaic.TcCoe
open Cert.Kernel.Facts₀ Cert.Kernel.Facts

open Cert.Step (Step kh)

/-- The loads of one batch element hold the numbers `D`. -/
structure Holds (D : Step) (q k : Vec Ideal S1x4x128 .bf16) (v : Vec Ideal S1x8x256 .bf16) (g bt : Vec Ideal S1x1x8 .f32)
    (sc : Vec Ideal S1x8x128 .f32) (c0 c2 c4 c6 : Vec Ideal S1x2x128x256 .fp8e4m3) : Prop where
  hq : ∀ h d, QN q (ix2 (kh h) d) = (D.Q h d : EReal)
  hk : ∀ h d, KN k (ix2 (kh h) d) = (D.K h d : EReal)
  hv : ∀ h c, v (ix3 0 h c) = D.V h c
  hg : ∀ h, g (ix3 0 0 h) = D.G h
  hb : ∀ h, bt (ix3 0 0 h) = D.B h
  hs : ∀ h d, sc (ix3 0 h d) = D.S h d
  h0 : ∀ (j : Fin 2) x d, c0 (ix4 0 j x d) = D.C ⟨0 + j, by omega⟩ x d
  h2 : ∀ (j : Fin 2) x d, c2 (ix4 0 j x d) = D.C ⟨2 + j, by omega⟩ x d
  h4 : ∀ (j : Fin 2) x d, c4 (ix4 0 j x d) = D.C ⟨4 + j, by omega⟩ x d
  h6 : ∀ (j : Fin 2) x d, c6 (ix4 0 j x d) = D.C ⟨6 + j, by omega⟩ x d

section

variable {D : Step} {q k : Vec Ideal S1x4x128 .bf16} {v : Vec Ideal S1x8x256 .bf16} {g bt : Vec Ideal S1x1x8 .f32}
    {sc : Vec Ideal S1x8x128 .f32} {c0 c2 c4 c6 : Vec Ideal S1x2x128x256 .fp8e4m3} (H : Holds D q k v g bt sc c0 c2 c4 c6)
include H

/-- The key's projection of the state. -/
theorem kv_at (h : Fin 8) (c : Fin 256) : PB q k sc c0 c2 c4 c6 (ix2 ⟨h, by omega⟩ c) = D.kv h c := by
  rw [PB, proj_at _ _ _ _ _ D.C H.h0 H.h2 H.h4 H.h6 _ h (by show (h : ℕ) % 8 = h; omega), Step.kv]
  refine Finset.sum_congr rfl fun x _ => ?_
  rw [lhs_lo, rows_at, H.hk, scl_at, H.hs, mul_assoc]

/-- The query's projection of the state. -/
theorem qs_at (h : Fin 8) (c : Fin 256) : PB q k sc c0 c2 c4 c6 (ix2 ⟨8 + h, by omega⟩ c) = D.qs h c := by
  rw [PB, proj_at _ _ _ _ _ D.C H.h0 H.h2 H.h4 H.h6 _ h (by show (8 + (h : ℕ)) % 8 = h; omega), Step.qs]
  refine Finset.sum_congr rfl fun x _ => ?_
  rw [lhs_hi, rows_at, H.hq, scl_at, H.hs, mul_assoc]

/-- The product of query and key. -/
theorem qkd_at (h : Fin 8) : QK (ROWS (QN q)) (ROWS (KN k)) (ix2 h 0) = (D.qk h : EReal) := by
  rw [qk_at, Step.qk, ← Step.coe_sum]
  refine Finset.sum_congr rfl fun x _ => ?_
  rw [rows_at, rows_at, H.hq, H.hk, ← EReal.coe_mul]

/-- The decay. -/
theorem a_at (h : Fin 8) : EA g (ix2 h 0) = D.a h := by
  rw [ea_at, H.hg, Step.a]

/-- The correction. -/
theorem db_at (h : Fin 8) (c : Fin 256) : DB q k v g bt sc c0 c2 c4 c6 (ix2 h c) = D.dl h c := by
  rw [DB, delta_at, col_at, H.hb, H.hv, a_at H, kv_at H, Step.dl]

/-- The output of a batch element. -/
theorem ob_at (h : Fin 8) (c : Fin 256) : OB q k v g bt sc c0 c2 c4 c6 (ix3 0 h c) = D.o h c := by
  rw [OB, out_at, a_at H, qs_at H, qkd_at H, db_at H, Step.o]

/-- The decay's power of two. -/
theorem ap_at (h : Fin 8) : AP g (ix2 h 0) = Step.pwE (D.a h) := by
  rw [AP, pw_at, a_at H]

/-- The decay's mantissa. -/
theorem m_at (h : Fin 8) : AM g (ix2 h 0) = (D.am h : EReal) := by
  rw [am_at, a_at H]; exact D.mE_eq h

/-- The mantissa of one head. -/
theorem mb_at (h : Fin 8) : MB g h (slM h) (ix2 0 0) = (D.am h : EReal) := by
  rw [← m_at H h]
  pointwise [MB]

variable {c : Vec Ideal S1x1x128x256 .fp8e4m3} {h : Fin 8} (hc : ∀ d x, c (ix4 0 0 d x) = D.C h d x)
include hc

/-- The accumulated product of one head: the new state over the mantissa, unless both are infinite. -/
theorem ub_at (d : Fin 128) (x : Fin 256) :
    UB q k v g bt sc c0 c2 c4 c6 c h (BitVec.ofNat 32 h) (slS h) (ix2 d x) = D.uE h d x
      ∨ (¬ Step.IsNum (UB q k v g bt sc c0 c2 c4 c6 c h (BitVec.ofNat 32 h) (slS h) (ix2 d x)) ∧ ¬ Step.IsNum (D.s h d x)) := by
  have hk : ROWS (KN k) (ix2 h d) = (D.K h d : EReal) := by rw [rows_at, H.hk]
  have hd : Ideal.div (DB q k v g bt sc c0 c2 c4 c6 (ix2 h x)) (AM g (ix2 h 0)) = Ideal.div (D.dl h x) (D.am h : EReal) := by
    rw [db_at H, m_at H]
  have hrow : extractStridedSlice S1x128 ![(h : ℕ), 0] (SC2 (SCL sc) (AP g)) (slS h) (ix2 0 d) = SC2 (SCL sc) (AP g) (ix2 h d) := by
    pointwise
  by_cases hr : D.K h d = 0 ∨ Step.IsNum (Ideal.div (D.dl h x) (D.am h : EReal))
  · left
    rw [UB, u_at _ _ _ _ _ _ _ _ (hr.imp (fun z => by rw [hk, z]; rfl) (fun z => by rw [hd]; exact z)), hd, hc, hk,
      hrow, sc2_at, scl_at, H.hs, ap_at H, Step.uE]
  · right
    push Not at hr
    exact ⟨u_inf _ _ _ _ _ _ _ _ hk hr.1 (by rw [hd]; exact hr.2), D.s_inf hr.1 hr.2⟩

/-- The accumulated product, where the new state is a number. -/
theorem ub_num (d : Fin 128) (x : Fin 256) (hn : Step.IsNum (D.s h d x)) :
    UB q k v g bt sc c0 c2 c4 c6 c h (BitVec.ofNat 32 h) (slS h) (ix2 d x) = (D.u h d x : EReal) := by
  rcases ub_at H hc d x with hu | hu
  · rw [hu, D.uE_num hn]
  · exact absurd hn hu.2

/-- The accumulated product, where the new state is infinite. -/
theorem ub_inf (d : Fin 128) (x : Fin 256) (hn : ¬ Step.IsNum (D.s h d x)) :
    ¬ Step.IsNum (UB q k v g bt sc c0 c2 c4 c6 c h (BitVec.ofNat 32 h) (slS h) (ix2 d x)) := by
  rcases ub_at H hc d x with hu | hu
  · rw [hu]; exact D.uE_inf hn
  · exact hu.1

/-- The row maxima of one head. -/
theorem xb_at (d : Fin 128) :
    XB q k v g bt sc c0 c2 c4 c6 c h (BitVec.ofNat 32 h) (slS h) (slM h) (ix2 d 0) = D.xE h d := by
  by_cases hn : D.num h d
  · rw [XB, x_at _ _ _ _ (fun x => ub_num H hc d x (hn x)), mb_at H, ← EReal.coe_mul, ← EReal.coe_mul, ← mul_assoc, D.mx_u, Step.xE,
      if_pos hn]
  · obtain ⟨x, hx⟩ := not_forall.mp hn
    rw [XB, x_top _ _ _ x (ub_inf H hc d x hx) (D.am h) (D.am_pos h) (mb_at H h), Step.xE, if_neg hn]

/-- The new codes of one head. -/
theorem cb_at (d : Fin 128) (x : Fin 256) :
    CB q k v g bt sc c0 c2 c4 c6 c h (BitVec.ofNat 32 h) (slS h) (slM h) (ix4 0 0 d x) = D.cd h d x := by
  have hw : INV (XB q k v g bt sc c0 c2 c4 c6 c h (BitVec.ofNat 32 h) (slS h) (slM h)) (MB g h (slM h)) (ix2 d 0) = D.wE h d := by
    rw [inv_at, xb_at H hc, mb_at H, Step.wE]
  rw [CB, codes_at, hw, Step.cd, Step.qt, min_comm, max_comm]
  by_cases hn : D.num h d
  · rw [if_pos hn, D.wE_num hn, ub_num H hc d x (hn x), ← EReal.coe_mul, D.u_w]
  · rw [if_neg hn, D.wE_inf hn, mul_zero]

end

end Cert.Kernel.Val

end
-- ==== Proof.KArr.lean ====
module

public import proofs.«01_k».proof.Proof.KElem
public import proofs.«01_k».proof.Proof.Run
public import Idealize.ShloMosaic.Lib.Pipeline.ValueKit.Point

@[expose] public section

set_option maxRecDepth 16384

noncomputable section

namespace Cert.Kernel.Val

open Idealize.ShloMosaic Idealize.ShloMosaic.TcCoe Idealize.SL.Sem
open Cert.Kernel.Facts₀ Cert.Kernel.Facts

open Cert.Step (Step kh)
open Idealize.ShloMosaic.Pipeline Cert.Kernel.Gen

/-- The rows of one batch element, read out of a block. -/
theorem ldq_at (x : Vec Ideal S4x4x128 .bf16) (b : Fin 4) (i : Fin 4) (d : Fin 128) : LDQ x b (ix3 0 i d) = x (ix3 b i d) :=
  View.ld_unit_apply_of _ _ _ _ _ _ fun a => by fin_cases a <;> simp
/-- The values of one batch element. -/
theorem ldv_at (x : Vec Ideal S4x8x256 .bf16) (b : Fin 4) (i : Fin 8) (d : Fin 256) : LDV x b (ix3 0 i d) = x (ix3 b i d) :=
  View.ld_unit_apply_of _ _ _ _ _ _ fun a => by fin_cases a <;> simp
/-- The gates of one batch element. -/
theorem ldg_at (x : Vec Ideal S4x1x8 .f32) (b : Fin 4) (d : Fin 8) : LDG x b (ix3 0 0 d) = x (ix3 b 0 d) :=
  View.ld_unit_apply_of _ _ _ _ _ _ fun a => by fin_cases a <;> simp
/-- The scales of one batch element. -/
theorem lds_at (x : Vec Ideal S4x8x128 .f32) (b : Fin 4) (i : Fin 8) (d : Fin 128) : LDS x b (ix3 0 i d) = x (ix3 b i d) :=
  View.ld_unit_apply_of _ _ _ _ _ _ fun a => by fin_cases a <;> simp
/-- The codes of two heads of one batch element. -/
theorem ldp_at (x : Vec Ideal S4x8x128x256 .fp8e4m3) (b : Fin 4) (p : Fin 7) (j : Fin 2) (d : Fin 128) (e : Fin 256) :
    LDP x b p (ix4 0 j d e) = x (ix4 b ⟨p + j, by omega⟩ d e) :=
  View.ld_unit_apply_of _ _ _ _ _ _ fun a => by fin_cases a <;> simp
/-- The codes of one head of one batch element. -/
theorem ldc_at (x : Vec Ideal S4x8x128x256 .fp8e4m3) (b : Fin 4) (h : Fin 8) (d : Fin 128) (e : Fin 256) :
    LDC x b h (ix4 0 0 d e) = x (ix4 b h d e) :=
  View.ld_unit_apply_of _ _ _ _ _ _ fun a => by fin_cases a <;> simp

section
variable (A0 A1 : (⟨4, ![500, 1, 4, 128]⟩ : Shape).Idx → EReal) (A2 : (⟨4, ![500, 1, 8, 256]⟩ : Shape).Idx → EReal)
  (A3 A4 : (⟨3, ![500, 1, 8]⟩ : Shape).Idx → EReal) (A5 : (⟨4, ![500, 8, 128, 256]⟩ : Shape).Idx → EReal)
  (A6 : (⟨3, ![500, 8, 128]⟩ : Shape).Idx → EReal)
variable (x0 x1 : Vec Ideal S4x4x128 .bf16) (x2 : Vec Ideal S4x8x256 .bf16) (x3 x4 : Vec Ideal S4x1x8 .f32)
  (x5 : Vec Ideal S4x8x128x256 .fp8e4m3) (x6 : Vec Ideal S4x8x128 .f32)

/-- The seven blocks are four consecutive batch elements of the arrays, from element `4 t`. -/
structure Blocks (t : Fin 125) : Prop where
  h0 : ∀ (b : Fin 4) i d, x0 (ix3 b i d) = A0 (ix4 ⟨t * 4 + b, by omega⟩ 0 i d)
  h1 : ∀ (b : Fin 4) i d, x1 (ix3 b i d) = A1 (ix4 ⟨t * 4 + b, by omega⟩ 0 i d)
  h2 : ∀ (b : Fin 4) i d, x2 (ix3 b i d) = A2 (ix4 ⟨t * 4 + b, by omega⟩ 0 i d)
  h3 : ∀ (b : Fin 4) i, x3 (ix3 b 0 i) = A3 (ix3 ⟨t * 4 + b, by omega⟩ 0 i)
  h4 : ∀ (b : Fin 4) i, x4 (ix3 b 0 i) = A4 (ix3 ⟨t * 4 + b, by omega⟩ 0 i)
  h5 : ∀ (b : Fin 4) i d e, x5 (ix4 b i d e) = A5 (ix4 ⟨t * 4 + b, by omega⟩ i d e)
  h6 : ∀ (b : Fin 4) i d, x6 (ix3 b i d) = A6 (ix3 ⟨t * 4 + b, by omega⟩ i d)

variable {A0 A1 A2 A3 A4 A5 A6 x0 x1 x2 x3 x4 x5 x6} {t : Fin 125} (H : Blocks A0 A1 A2 A3 A4 A5 A6 x0 x1 x2 x3 x4 x5 x6 t)
include H

/-- The loads of batch element `b` of block `t` are the numbers of batch element `4 t + b`. -/
theorem holds (b : Fin 4) : Holds (Step.of A0 A1 A2 A3 A4 A5 A6 ⟨t * 4 + b, by omega⟩) (LDQ x0 b) (LDQ x1 b) (LDV x2 b) (LDG x3 b)
    (LDG x4 b) (LDS x6 b) (LDP x5 b 0) (LDP x5 b 2) (LDP x5 b 4) (LDP x5 b 6) where
  hq h d := by
    rw [qn_at]; simp only [ldq_at, H.h0]
    exact Step.nrmq_coe (fun d => A0 (ix4 ⟨t * 4 + b, by omega⟩ 0 (kh h) d)) d
  hk h d := by
    rw [kn_at]; simp only [ldq_at, H.h1]
    exact Step.nrm_coe (fun d => A1 (ix4 ⟨t * 4 + b, by omega⟩ 0 (kh h) d)) d
  hv h c := by rw [ldv_at, H.h2]; rfl
  hg h := by rw [ldg_at, H.h3]; rfl
  hb h := by rw [ldg_at, H.h4]; rfl
  hs h d := by rw [lds_at, H.h6]; rfl
  h0 j x d := by rw [ldp_at, H.h5]; rfl
  h2 j x d := by rw [ldp_at, H.h5]; rfl
  h4 j x d := by rw [ldp_at, H.h5]; rfl
  h6 j x d := by rw [ldp_at, H.h5]; rfl

/-- The first output's block. -/
theorem o7_at (b : Fin 4) (h : Fin 8) (c : Fin 256) :
    O7 x0 x1 x2 x3 x4 x5 x6 (ix3 b h c) = Step.G7 A0 A1 A2 A3 A4 A5 A6 (ix3 ⟨t * 4 + b, by omega⟩ h c) :=
  ob_at (holds H b) h c

/-- The block of new codes. -/
theorem o8_at (b : Fin 4) (h : Fin 8) (d : Fin 128) (c : Fin 256) :
    O8 x0 x1 x2 x3 x4 x5 x6 (ix4 b h d c) = Step.G8 A0 A1 A2 A3 A4 A5 A6 (ix4 ⟨t * 4 + b, by omega⟩ h d c) :=
  cb_at (holds H b) (h := h) (c := LDC x5 b h) (fun d x => by rw [ldc_at, H.h5]; rfl) d c

/-- The row maxima, scaled. -/
theorem xbx_at (b : Fin 4) (h : Fin 8) (d : Fin 128) : XBx x0 x1 x2 x3 x4 x5 x6 b h (ix2 d 0)
    = (Step.of A0 A1 A2 A3 A4 A5 A6 ⟨t * 4 + b, by omega⟩).xE h d :=
  xb_at (holds H b) (h := h) (c := LDC x5 b h) (fun d x => by rw [ldc_at, H.h5]; rfl) d

/-- The block of new scales. -/
theorem o9_at (b : Fin 4) (h : Fin 8) (d : Fin 128) :
    O9 x0 x1 x2 x3 x4 x5 x6 (ix3 b h d) = Step.G9 A0 A1 A2 A3 A4 A5 A6 (ix3 ⟨t * 4 + b, by omega⟩ h d) := by
  rw [O9, scales_at _ _ _ _ ((Step.of A0 A1 A2 A3 A4 A5 A6 ⟨t * 4 + b, by omega⟩).xE h d)]
  · exact Step.scale_eq _ h d
  · have hl : ((b : ℕ) * 8 + h) < 32 := by omega
    show (if hl : ((b : ℕ) * 8 + h) < 32 then XBx x0 x1 x2 x3 x4 x5 x6 ⟨((b : ℕ) * 8 + h) / 8, by omega⟩ ⟨((b : ℕ) * 8 + h) % 8, Nat.mod_lt _ (by decide)⟩ (ix2 d 0) else _) = _
    rw [dif_pos hl, ← xbx_at H b h d]
    have e1 : (⟨((b : ℕ) * 8 + h) / 8, by omega⟩ : Fin 4) = b := Fin.ext (by show ((b : ℕ) * 8 + h) / 8 = b; omega)
    have e2 : (⟨((b : ℕ) * 8 + h) % 8, Nat.mod_lt _ (by decide)⟩ : Fin 8) = h := Fin.ext (by show ((b : ℕ) * 8 + h) % 8 = h; omega)
    rw [e1, e2]

end

/-! ## The arrays -/

section
variable (m : (loc : Loc 1 τ sig) → Buf (Elt Ideal) loc) (c : Dev 1)

/-- Block `t` of every array is its `t`-th four batch elements. -/
theorem ix_0 : ∀ t : Fin cfg0.N, win0_0.index t = ![(t : ℕ), 0, 0] := by decide +kernel
theorem ix_1 : ∀ t : Fin cfg0.N, win0_1.index t = ![(t : ℕ), 0, 0] := by decide +kernel
theorem ix_2 : ∀ t : Fin cfg0.N, win0_2.index t = ![(t : ℕ), 0, 0] := by decide +kernel
theorem ix_3 : ∀ t : Fin cfg0.N, win0_3.index t = ![(t : ℕ), 0, 0] := by decide +kernel
theorem ix_4 : ∀ t : Fin cfg0.N, win0_4.index t = ![(t : ℕ), 0, 0] := by decide +kernel
theorem ix_5 : ∀ t : Fin cfg0.N, win0_5.index t = ![(t : ℕ), 0, 0, 0] := by decide +kernel
theorem ix_6 : ∀ t : Fin cfg0.N, win0_6.index t = ![(t : ℕ), 0, 0] := by decide +kernel
theorem ix_7 : ∀ t : Fin cfg0.N, win0_7.index t = ![(t : ℕ), 0, 0] := by decide +kernel
theorem ix_8 : ∀ t : Fin cfg0.N, win0_8.index t = ![(t : ℕ), 0, 0, 0] := by decide +kernel
theorem ix_9 : ∀ t : Fin cfg0.N, win0_9.index t = ![(t : ℕ), 0, 0] := by decide +kernel

/-- Each input block, entry by entry, in the launch arrays. -/
theorem b0 (t : Fin cfg0.N) (b : Fin 4) (i : Fin 4) (d : Fin 128) :
    iblk m c 0 t (ix3 b i d) = m ((c : Thread 1 τ).loc main_arg0) (ix4 ⟨t * 4 + b, by have : (t : ℕ) < 125 := t.isLt; omega⟩ 0 i d) := by
  blk_simp [iblk, ix_0]
  entry_read
  pointwise
  blk_ext [ix_0]

theorem b1 (t : Fin cfg0.N) (b : Fin 4) (i : Fin 4) (d : Fin 128) :
    iblk m c 1 t (ix3 b i d) = m ((c : Thread 1 τ).loc main_arg1) (ix4 ⟨t * 4 + b, by have : (t : ℕ) < 125 := t.isLt; omega⟩ 0 i d) := by
  blk_simp [iblk, ix_1]
  entry_read
  pointwise
  blk_ext [ix_1]

theorem b2 (t : Fin cfg0.N) (b : Fin 4) (i : Fin 8) (d : Fin 256) :
    iblk m c 2 t (ix3 b i d) = m ((c : Thread 1 τ).loc main_arg2) (ix4 ⟨t * 4 + b, by have : (t : ℕ) < 125 := t.isLt; omega⟩ 0 i d) := by
  blk_simp [iblk, ix_2]
  entry_read
  pointwise
  blk_ext [ix_2]

theorem b3 (t : Fin cfg0.N) (b : Fin 4) (i : Fin 8) :
    iblk m c 3 t (ix3 b 0 i) = m ((c : Thread 1 τ).loc main_arg3) (ix3 ⟨t * 4 + b, by have : (t : ℕ) < 125 := t.isLt; omega⟩ 0 i) := by
  blk_simp [iblk, ix_3, V_main_arg3]
  blk_ext [ix_3]

theorem b4 (t : Fin cfg0.N) (b : Fin 4) (i : Fin 8) :
    iblk m c 4 t (ix3 b 0 i) = m ((c : Thread 1 τ).loc main_arg4) (ix3 ⟨t * 4 + b, by have : (t : ℕ) < 125 := t.isLt; omega⟩ 0 i) := by
  blk_simp [iblk, ix_4, V_main_arg4]
  blk_ext [ix_4]

theorem b6 (t : Fin cfg0.N) (b : Fin 4) (i : Fin 8) (d : Fin 128) :
    iblk m c 6 t (ix3 b i d) = m ((c : Thread 1 τ).loc main_arg6) (ix3 ⟨t * 4 + b, by have : (t : ℕ) < 125 := t.isLt; omega⟩ i d) := by
  blk_simp [iblk, ix_6, V_main_arg6]
  blk_ext [ix_6]

theorem b5 (t : Fin cfg0.N) (b : Fin 4) (i : Fin 8) (d : Fin 128) (e : Fin 256) :
    iblk m c 5 t (ix4 b i d e) = m ((c : Thread 1 τ).loc main_arg5) (ix4 ⟨t * 4 + b, by have : (t : ℕ) < 125 := t.isLt; omega⟩ i d e) := by
  blk_simp [iblk, ix_5, V_main_arg5]
  blk_ext [ix_5]

/-- Every block is four consecutive batch elements of the arguments. -/
theorem blocks (t : Fin cfg0.N) : Blocks (m ((c : Thread 1 τ).loc main_arg0)) (m ((c : Thread 1 τ).loc main_arg1))
    (m ((c : Thread 1 τ).loc main_arg2)) (m ((c : Thread 1 τ).loc main_arg3)) (m ((c : Thread 1 τ).loc main_arg4)) (m ((c : Thread 1 τ).loc main_arg5))
    (m ((c : Thread 1 τ).loc main_arg6)) (iblk m c 0 t) (iblk m c 1 t) (iblk m c 2 t) (iblk m c 3 t) (iblk m c 4 t) (iblk m c 5 t)
    (iblk m c 6 t) ⟨t, t.isLt⟩ where
  h0 b i d := b0 m c t b i d
  h1 b i d := b1 m c t b i d
  h2 b i d := b2 m c t b i d
  h3 b i := b3 m c t b i
  h4 b i := b4 m c t b i
  h5 b i d e := b5 m c t b i d e
  h6 b i d := b6 m c t b i d

/-- The kernel's first result, as a function of the arguments. -/
theorem final7 : (dats m 0 c).arrAt 7 cfg0.N = Step.G7 (m ((c : Thread 1 τ).loc main_arg0)) (m ((c : Thread 1 τ).loc main_arg1)) (m ((c : Thread 1 τ).loc main_arg2))
    (m ((c : Thread 1 τ).loc main_arg3)) (m ((c : Thread 1 τ).loc main_arg4)) (m ((c : Thread 1 τ).loc main_arg5)) (m ((c : Thread 1 τ).loc main_arg6)) := by
  refine (dats m 0 c).arrAt_eq_of_covers 7 _ (by decide +kernel) fun t hf y => ?_
  blk_simp
  rw [after0_7]
  refine Eq.trans ?_ ((o7_at (blocks m c t) (y 0) (y 1) (y 2)).trans ?_)
  · exact congrArg _ (ix3_eta y).symm
  · refine congrArg _ ?_
    blk_ext [ix_7]

/-- The kernel's new codes, as a function of the arguments. -/
theorem final8 : (dats m 0 c).arrAt 8 cfg0.N = Step.G8 (m ((c : Thread 1 τ).loc main_arg0)) (m ((c : Thread 1 τ).loc main_arg1)) (m ((c : Thread 1 τ).loc main_arg2))
    (m ((c : Thread 1 τ).loc main_arg3)) (m ((c : Thread 1 τ).loc main_arg4)) (m ((c : Thread 1 τ).loc main_arg5)) (m ((c : Thread 1 τ).loc main_arg6)) := by
  refine (dats m 0 c).arrAt_eq_of_covers 8 _ (by decide +kernel) fun t hf y => ?_
  blk_simp
  rw [after0_8]
  refine Eq.trans ?_ ((o8_at (blocks m c t) (y 0) (y 1) (y 2) (y 3)).trans ?_)
  · exact congrArg _ (ix4_eta y).symm
  · refine congrArg _ ?_
    blk_ext [ix_8]

/-- The kernel's new scales, as a function of the arguments. -/
theorem final9 : (dats m 0 c).arrAt 9 cfg0.N = Step.G9 (m ((c : Thread 1 τ).loc main_arg0)) (m ((c : Thread 1 τ).loc main_arg1)) (m ((c : Thread 1 τ).loc main_arg2))
    (m ((c : Thread 1 τ).loc main_arg3)) (m ((c : Thread 1 τ).loc main_arg4)) (m ((c : Thread 1 τ).loc main_arg5)) (m ((c : Thread 1 τ).loc main_arg6)) := by
  refine (dats m 0 c).arrAt_eq_of_covers 9 _ (by decide +kernel) fun t hf y => ?_
  blk_simp
  rw [after0_9]
  refine Eq.trans ?_ ((o9_at (blocks m c t) (y 0) (y 1) (y 2)).trans ?_)
  · exact congrArg _ (ix3_eta y).symm
  · refine congrArg _ ?_
    blk_ext [ix_9]

end

section
variable (m : (ℓ : Loc nD τ sig) → Buf (Elt Ideal) ℓ) (ρ : Dev nD → PrngReg)

/-- The run, with its results as functions of the arguments. -/
theorem run_value : θ_run (defs (F := Ideal)) (onTc (τ := τ) (main (F := Ideal))) ⟨m, fun _ => 0, ρ⟩ fun r => ∀ c : Dev nD,
      r.2.mem ((c : Thread nD τ).loc main_v3_0) = Step.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v3_1) = Step.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v3_2) = Step.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run (defs (F := Ideal)) _ _).mono (fun r h c => by
    obtain ⟨h7, h8, h9, hargs⟩ := h c
    exact ⟨h7.trans (final7 m c), h8.trans (final8 m c), h9.trans (final9 m c), hargs⟩)
    (run_blocks (F := Ideal) m ρ)

end

end Cert.Kernel.Val

end
-- ==== Proof.RRun.lean ====
module

public import proofs.«01_k».proof.Proof.Gen.ReferenceIdeal.Frame
public import Idealize.ShloMosaic.Lib.Pipeline.Value

@[expose] public section

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The reference's run: each result is the array its window leaves, the arguments are unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceIdeal.Val
-- ==== Proof.RVal.lean ====
module

public import proofs.«01_k».proof.Proof.Spec
public import proofs.«01_k».proof.Proof.RRun
public import Idealize.ShloMosaic.Lib.Pipeline.ValueKit.Point

@[expose] public section

set_option maxRecDepth 16384

noncomputable section

namespace Cert.ReferenceIdeal.Val

open Idealize.ShloMosaic Idealize.ShloMosaic.TcCoe
open Cert.ReferenceIdeal.Gen Idealize.ShloMosaic.Pipeline
open Cert.Step (Step kh)

/-- The value head of a key head and its place. -/
def hd (i : Fin 4) (j : Fin 2) : Fin 8 := ⟨i * 2 + j, by omega⟩

/-- The key head of a value head, from its place. -/
theorem kh_hd (i : Fin 4) (j : Fin 2) : kh (hd i j) = i := Fin.ext (by show ((i : ℕ) * 2 + j) / 2 = i; omega)
/-- A value head from its key head and place. -/
theorem hd_div (h : Fin 8) : hd ⟨h / 2, by omega⟩ ⟨h % 2, by omega⟩ = h := Fin.ext (by show (h : ℕ) / 2 * 2 + h % 2 = h; omega)

/-- The exponent, entry by entry. -/
theorem pay1_at (v : Vec Ideal S500x8x128x1 .f32) (n : Fin 500) (h : Fin 8) (d : Fin 128) :
    k0_pay1 (F := Ideal) v k0_pay16 (ix4 n h d 0) = (if v (ix4 n h d 0) = 0 then 0
      else Ideal.liftRound Int.floor (Ideal.div (Ideal.log (v (ix4 n h d 0) * Ideal.ofBits .f32 0x3B124925#32)) (Ideal.log (Ideal.ofBits .f32 0x40000000#32))) + 1 : EReal) := by
  pointwise [k0_pay1, k0_pay16]

/-- The clipped quotient, entry by entry. -/
theorem pay2_at (s : Vec Ideal S500x8x128x256 .f32) (v : Vec Ideal S500x8x128x1 .f32) (n : Fin 500) (h : Fin 8) (d : Fin 128)
    (c : Fin 256) :
    k0_pay2 (F := Ideal) s v k0_pay16 (ix4 n h d c) = (min (Ideal.ofBits .f32 0x43E00000#32) (max (Ideal.ofBits .f32 0xC3E00000#32)
      (s (ix4 n h d c) * FloatOps.exp2 (F := Ideal) (φ := .f32) (0 - k0_pay1 (F := Ideal) v k0_pay16 (ix4 n h d 0)))) : EReal) := by
  pointwise [k0_pay2]

/-- The scale, entry by entry. -/
theorem pay3_at (v : Vec Ideal S500x8x128x1 .f32) (n : Fin 500) (h : Fin 8) (d : Fin 128) :
    k0_pay3 (F := Ideal) v k0_pay16 (ix3 n h d) = (FloatOps.exp2 (F := Ideal) (φ := .f32) (k0_pay1 (F := Ideal) v k0_pay16 (ix4 n h d 0)) : EReal) := by
  pointwise [k0_pay3]

/-- The largest entry of a row, as the reference computes it. -/
def mE (D : Step) (h : Fin 8) (d : Fin 128) : EReal := by
  classical exact if D.num h d then (D.mx h d : EReal) else ⊤

/-- The exponent of a row of numbers. -/
theorem e_num (D : Step) (v : Vec Ideal S500x8x128x1 .f32) (n : Fin 500) (h : Fin 8) (d : Fin 128) (hv : v (ix4 n h d 0) = mE D h d)
    (hn : D.num h d) : k0_pay1 (F := Ideal) v k0_pay16 (ix4 n h d 0) = (D.e h d : EReal) := by
  rw [pay1_at, hv, mE, if_pos hn, Step.e, Step.ofBits_c0]
  by_cases hm : D.mx h d = 0
  · rw [if_pos hm, if_pos (by rw [hm]; rfl)]; rfl
  · have hp := mul_pos (lt_of_le_of_ne (Step.mx_nonneg _ h d) (Ne.symm hm)) Step.c0_pos
    rw [if_neg hm, if_neg (fun k => hm (EReal.coe_eq_zero.mp k)), ← EReal.coe_mul, Step.log2_real hp, EReal.coe_add]; rfl

/-- The exponent of a row with an infinite entry. -/
theorem e_inf (D : Step) (v : Vec Ideal S500x8x128x1 .f32) (n : Fin 500) (h : Fin 8) (d : Fin 128) (hv : v (ix4 n h d 0) = mE D h d)
    (hn : ¬ D.num h d) : k0_pay1 (F := Ideal) v k0_pay16 (ix4 n h d 0) = (⊤ : EReal) := by
  rw [pay1_at, hv, mE, if_neg hn, Step.ofBits_c0, if_neg EReal.top_ne_zero, EReal.top_mul_coe_of_pos Step.c0_pos, Step.log2_top]
  rfl

/-- The scale of a row whose largest entry is known. -/
theorem sc_of (D : Step) (v : Vec Ideal S500x8x128x1 .f32) (n : Fin 500) (h : Fin 8) (d : Fin 128) (hv : v (ix4 n h d 0) = mE D h d) :
    k0_pay3 (F := Ideal) v k0_pay16 (ix3 n h d) = D.sc h d := by
  rw [pay3_at, Step.sc]
  by_cases hn : D.num h d
  · rw [e_num D v n h d hv hn, if_pos hn]; rfl
  · rw [e_inf D v n h d hv hn, if_neg hn]; rfl

/-- The codes of a row whose entries are known. -/
theorem cd_of (D : Step) (s : Vec Ideal S500x8x128x256 .f32) (v : Vec Ideal S500x8x128x1 .f32) (n : Fin 500) (h : Fin 8) (d : Fin 128)
    (c : Fin 256) (hs : s (ix4 n h d c) = D.s h d c) (hv : v (ix4 n h d 0) = mE D h d) :
    k0_pay2 (F := Ideal) s v k0_pay16 (ix4 n h d c) = D.cd h d c := by
  rw [pay2_at, hs, Step.cd, Step.qt]
  by_cases hn : D.num h d
  · have : (FloatOps.exp2 (F := Ideal) (φ := .f32) (0 - ((D.e h d : ℝ) : EReal)) : EReal) = (((2 : ℝ) ^ (-D.e h d) : ℝ) : EReal) := by
      rw [zero_sub, ← EReal.coe_neg]; rfl
    rw [e_num D v n h d hv hn, if_pos hn, this, D.s_r hn, ← EReal.coe_mul]
  · have : (FloatOps.exp2 (F := Ideal) (φ := .f32) (0 - (⊤ : EReal)) : EReal) = 0 := by
      rw [zero_sub, EReal.neg_top]; rfl
    rw [e_inf D v n h d hv hn, if_neg hn, this, mul_zero]

section
variable {A0 A1 : Vec Ideal S500x1x4x128 .bf16} {A2 : Vec Ideal S500x1x8x256 .bf16} {A3 A4 : Vec Ideal S500x1x8 .f32}
  {A5 : Vec Ideal S500x8x128x256 .fp8e4m3} {A6 : Vec Ideal S500x8x128 .f32}

/-- A normalised query. -/
theorem qn_at (n : Fin 500) (i : Fin 4) (j : Fin 2) (d : Fin 128) :
    k0_pay5 A0 (ix4 n 0 i d) = ((Step.of A0 A1 A2 A3 A4 A5 A6 n).Q (hd i j) d : EReal) := by
  have : k0_pay5 A0 (ix4 n 0 i d) = (Step.nrm (fun d => A0 (ix4 n 0 i d)) d * Ideal.ofBits .f32 0x3DB504F3#32 : EReal) := by
    pointwise [k0_pay5]
    rfl
  rw [this, Step.nrmq_coe]
  show _ = ((Step.nrm (fun d => A0 (ix4 n 0 (kh (hd i j)) d)) d * Ideal.ofBits .f32 0x3DB504F3#32).toReal : EReal)
  rw [kh_hd]

/-- A normalised key, as bf16. -/
theorem kn_at (n : Fin 500) (i : Fin 4) (j : Fin 2) (d : Fin 128) :
    k0_pay6 A1 (ix4 n 0 i d) = ((Step.of A0 A1 A2 A3 A4 A5 A6 n).K (hd i j) d : EReal) := by
  have : k0_pay6 A1 (ix4 n 0 i d) = (Step.nrm (fun d => A1 (ix4 n 0 i d)) d : EReal) := by
    pointwise [k0_pay6]
    rfl
  rw [this, Step.nrm_coe]
  show _ = ((Step.nrm (fun d => A1 (ix4 n 0 (kh (hd i j)) d)) d).toReal : EReal)
  rw [kh_hd]

/-- A normalised key. -/
theorem knf_at (n : Fin 500) (i : Fin 4) (j : Fin 2) (d : Fin 128) :
    k0_pay10 (k0_pay6 A1) (ix3 n i d) = ((Step.of A0 A1 A2 A3 A4 A5 A6 n).K (hd i j) d : EReal) := by
  rw [← kn_at]
  pointwise [k0_pay10]

/-- The state. -/
theorem st_at (n : Fin 500) (i : Fin 4) (j : Fin 2) (d : Fin 128) (c : Fin 256) :
    k0_pay8 (k0_pay7 A5) A6 (ix5 n i j d c)
      = ((Step.of A0 A1 A2 A3 A4 A5 A6 n).S (hd i j) d * (Step.of A0 A1 A2 A3 A4 A5 A6 n).C (hd i j) d c : EReal) := by
  have : k0_pay8 (k0_pay7 A5) A6 (ix5 n i j d c) = (A5 (ix4 n (hd i j) d c) * A6 (ix3 n (hd i j) d) : EReal) := by
    pointwise [k0_pay8, k0_pay7]
    rfl
  rw [this]
  exact mul_comm (A5 (ix4 n (hd i j) d c) : EReal) (A6 (ix3 n (hd i j) d))

/-- The decay. -/
theorem a_at (n : Fin 500) (i : Fin 4) (j : Fin 2) :
    k0_pay9 A3 (ix3 n i j) = (Step.of A0 A1 A2 A3 A4 A5 A6 n).a (hd i j) := by
  pointwise [k0_pay9]
  rfl

/-- The decay, broadcast. -/
theorem a'_at (n : Fin 500) (i : Fin 4) (j : Fin 2) :
    k0_pay11 A3 (ix4 n i j 0) = (Step.of A0 A1 A2 A3 A4 A5 A6 n).a (hd i j) := by
  rw [← a_at]
  pointwise [k0_pay11]

/-- The correction. -/
theorem dl_at (n : Fin 500) (i : Fin 4) (j : Fin 2) (c : Fin 256) :
    k0_pay12 A2 A3 A4 (k0_pay6 A1) (k0_pay7 A5) A6 (ix4 n i j c) = (Step.of A0 A1 A2 A3 A4 A5 A6 n).dl (hd i j) c := by
  have : k0_pay12 A2 A3 A4 (k0_pay6 A1) (k0_pay7 A5) A6 (ix4 n i j c)
      = (A4 (ix3 n 0 (hd i j)) * (A2 (ix4 n 0 (hd i j) c) - k0_pay11 A3 (ix4 n i j 0)
          * ∑ x, k0_pay10 (k0_pay6 A1) (ix3 n i x) * k0_pay8 (k0_pay7 A5) A6 (ix5 n i j x c)) : EReal) := by
    pointwise [k0_pay12]
    rfl
  rw [this, a'_at (A0 := A0) (A1 := A1) (A2 := A2) (A4 := A4) (A5 := A5) (A6 := A6)]
  have hs : ∑ x, (k0_pay10 (k0_pay6 A1) (ix3 n i x) * k0_pay8 (k0_pay7 A5) A6 (ix5 n i j x c) : EReal)
      = (Step.of A0 A1 A2 A3 A4 A5 A6 n).kv (hd i j) c := by
    rw [Step.kv]
    refine Finset.sum_congr rfl fun x _ => ?_
    rw [knf_at (A0 := A0) (A2 := A2) (A3 := A3) (A4 := A4) (A5 := A5) (A6 := A6) n i j,
      st_at (A0 := A0) (A1 := A1) (A2 := A2) (A3 := A3) (A4 := A4)]
  rw [hs]
  rfl

/-- The output by key head. -/
theorem o_at (n : Fin 500) (i : Fin 4) (j : Fin 2) (c : Fin 256) :
    k0_pay13 A2 A3 A4 (k0_pay5 A0) (k0_pay6 A1) (k0_pay7 A5) A6 (ix4 n i j c) = (Step.of A0 A1 A2 A3 A4 A5 A6 n).o (hd i j) c := by
  have : k0_pay13 A2 A3 A4 (k0_pay5 A0) (k0_pay6 A1) (k0_pay7 A5) A6 (ix4 n i j c)
      = (k0_pay11 A3 (ix4 n i j 0) * ∑ x, k0_pay5 A0 (ix4 n 0 i x) * k0_pay8 (k0_pay7 A5) A6 (ix5 n i j x c)
        + (∑ x, k0_pay5 A0 (ix4 n 0 i x) * k0_pay10 (k0_pay6 A1) (ix3 n i x)) * k0_pay12 A2 A3 A4 (k0_pay6 A1) (k0_pay7 A5) A6 (ix4 n i j c) : EReal) := by
    pointwise [k0_pay13]
  rw [this, a'_at (A0 := A0) (A1 := A1) (A2 := A2) (A4 := A4) (A5 := A5) (A6 := A6), dl_at (A0 := A0)]
  have hs : ∑ x, (k0_pay5 A0 (ix4 n 0 i x) * k0_pay8 (k0_pay7 A5) A6 (ix5 n i j x c) : EReal)
      = (Step.of A0 A1 A2 A3 A4 A5 A6 n).qs (hd i j) c := by
    rw [Step.qs]
    refine Finset.sum_congr rfl fun x _ => ?_
    rw [qn_at (A1 := A1) (A2 := A2) (A3 := A3) (A4 := A4) (A5 := A5) (A6 := A6) n i j,
      st_at (A0 := A0) (A1 := A1) (A2 := A2) (A3 := A3) (A4 := A4)]
  have hq : ∑ x, (k0_pay5 A0 (ix4 n 0 i x) * k0_pay10 (k0_pay6 A1) (ix3 n i x) : EReal)
      = ((Step.of A0 A1 A2 A3 A4 A5 A6 n).qk (hd i j) : EReal) := by
    rw [Step.qk, ← Step.coe_sum]
    refine Finset.sum_congr rfl fun x _ => ?_
    rw [qn_at (A1 := A1) (A2 := A2) (A3 := A3) (A4 := A4) (A5 := A5) (A6 := A6) n i j,
      knf_at (A0 := A0) (A2 := A2) (A3 := A3) (A4 := A4) (A5 := A5) (A6 := A6) n i j, ← EReal.coe_mul]
  rw [hs, hq]
  rfl

/-- The new state. -/
theorem s_at (n : Fin 500) (h : Fin 8) (d : Fin 128) (c : Fin 256) :
    k0_pay14 A2 A3 A4 (k0_pay6 A1) (k0_pay7 A5) A6 (ix4 n h d c) = (Step.of A0 A1 A2 A3 A4 A5 A6 n).s h d c := by
  have : k0_pay14 A2 A3 A4 (k0_pay6 A1) (k0_pay7 A5) A6 (ix4 n h d c)
      = (k0_pay9 A3 (ix3 n ⟨h / 2, by omega⟩ ⟨h % 2, by omega⟩) * k0_pay8 (k0_pay7 A5) A6 (ix5 n ⟨h / 2, by omega⟩ ⟨h % 2, by omega⟩ d c)
        + k0_pay10 (k0_pay6 A1) (ix3 n ⟨h / 2, by omega⟩ d)
          * k0_pay12 A2 A3 A4 (k0_pay6 A1) (k0_pay7 A5) A6 (ix4 n ⟨h / 2, by omega⟩ ⟨h % 2, by omega⟩ c) : EReal) := by
    pointwise [k0_pay14]
  rw [this, a_at (A0 := A0) (A1 := A1) (A2 := A2) (A4 := A4) (A5 := A5) (A6 := A6), dl_at (A0 := A0),
    knf_at (A0 := A0) (A2 := A2) (A3 := A3) (A4 := A4) (A5 := A5) (A6 := A6) n _ ⟨h % 2, by omega⟩,
    st_at (A0 := A0) (A1 := A1) (A2 := A2) (A3 := A3) (A4 := A4), hd_div]
  rfl

/-- The largest entry of a row of the new state. -/
theorem mx_at (n : Fin 500) (h : Fin 8) (d : Fin 128) :
    k0_pay15 A2 A3 A4 (k0_pay6 A1) (k0_pay7 A5) A6 (ix4 n h d 0) = mE (Step.of A0 A1 A2 A3 A4 A5 A6 n) h d := by
  rw [mE]
  pointwise [k0_pay15]
  by_cases hn : (Step.of A0 A1 A2 A3 A4 A5 A6 n).num h d
  · rw [if_pos hn]
    exact Step.fold_max _ _ fun c => (s_at (A0 := A0) n h d c).trans (Step.Step.s_r _ hn c)
  · rw [if_neg hn]
    obtain ⟨c, hc⟩ := not_forall.mp hn
    exact Step.fold_top _ c (by rw [s_at (A0 := A0)]; exact hc)

/-- The new scale. -/
theorem sc_at (n : Fin 500) (h : Fin 8) (d : Fin 128) :
    k0_pay3 (F := Ideal) (k0_pay15 A2 A3 A4 (k0_pay6 A1) (k0_pay7 A5) A6) k0_pay16 (ix3 n h d)
      = Step.G9 A0 A1 A2 A3 A4 A5 A6 (ix3 n h d) :=
  sc_of (Step.of A0 A1 A2 A3 A4 A5 A6 n) _ n h d (mx_at n h d)

/-- The new code. -/
theorem cd_at (n : Fin 500) (h : Fin 8) (d : Fin 128) (c : Fin 256) :
    k0_pay2 (F := Ideal) (k0_pay14 A2 A3 A4 (k0_pay6 A1) (k0_pay7 A5) A6) (k0_pay15 A2 A3 A4 (k0_pay6 A1) (k0_pay7 A5) A6)
      k0_pay16 (ix4 n h d c) = Step.G8 A0 A1 A2 A3 A4 A5 A6 (ix4 n h d c) :=
  cd_of (Step.of A0 A1 A2 A3 A4 A5 A6 n) _ _ n h d c (s_at n h d c) (mx_at n h d)

/-- The output. -/
theorem oo_at (n : Fin 500) (h : Fin 8) (c : Fin 256) :
    k0_pay4 (k0_pay13 A2 A3 A4 (k0_pay5 A0) (k0_pay6 A1) (k0_pay7 A5) A6) (ix3 n h c) = Step.G7 A0 A1 A2 A3 A4 A5 A6 (ix3 n h c) := by
  pointwise [k0_pay4]
  rw [o_at, hd_div]
  rfl

end

end Cert.ReferenceIdeal.Val

end
-- ==== Proof.RArr.lean ====
module

public import proofs.«01_k».proof.Proof.RVal

@[expose] public section

set_option maxRecDepth 16384

noncomputable section

namespace Cert.ReferenceIdeal.Val

open Idealize.ShloMosaic Idealize.ShloMosaic.TcCoe Idealize.SL.Sem
open Cert.ReferenceIdeal.Gen Idealize.ShloMosaic.Pipeline
open Cert.Step (Step kh)

/-! ## A load of a whole array is the array -/

theorem ld0 (x : Vec Ideal S500x1x4x128 .bf16) : View.ld x r0_0 = x :=
  funext fun y => View.ld_unit_apply_of _ _ _ _ _ _ fun a => by fin_cases a <;> simp
theorem ld1 (x : Vec Ideal S500x1x8x256 .bf16) : View.ld x r0_1 = x :=
  funext fun y => View.ld_unit_apply_of _ _ _ _ _ _ fun a => by fin_cases a <;> simp
theorem ld2 (x : Vec Ideal S500x1x8 .f32) : View.ld x r0_2 = x :=
  funext fun y => View.ld_unit_apply_of _ _ _ _ _ _ fun a => by fin_cases a <;> simp
theorem ld3 (x : Vec Ideal S500x8x128x256 .fp8e4m3) : View.ld x r0_3 = x :=
  funext fun y => View.ld_unit_apply_of _ _ _ _ _ _ fun a => by fin_cases a <;> simp
theorem ld4 (x : Vec Ideal S500x8x128 .f32) : View.ld x r0_4 = x :=
  funext fun y => View.ld_unit_apply_of _ _ _ _ _ _ fun a => by fin_cases a <;> simp

/-- The one block of every array is the whole array. -/
theorem ix_0 : ∀ t : Fin cfg0.N, win0_0.index t = ![0, 0, 0, 0] := by decide +kernel
theorem ix_1 : ∀ t : Fin cfg0.N, win0_1.index t = ![0, 0, 0, 0] := by decide +kernel
theorem ix_2 : ∀ t : Fin cfg0.N, win0_2.index t = ![0, 0, 0, 0] := by decide +kernel
theorem ix_3 : ∀ t : Fin cfg0.N, win0_3.index t = ![0, 0, 0] := by decide +kernel
theorem ix_4 : ∀ t : Fin cfg0.N, win0_4.index t = ![0, 0, 0] := by decide +kernel
theorem ix_5 : ∀ t : Fin cfg0.N, win0_5.index t = ![0, 0, 0, 0] := by decide +kernel
theorem ix_6 : ∀ t : Fin cfg0.N, win0_6.index t = ![0, 0, 0] := by decide +kernel
theorem ix_7 : ∀ t : Fin cfg0.N, win0_7.index t = ![0, 0, 0] := by decide +kernel
theorem ix_8 : ∀ t : Fin cfg0.N, win0_8.index t = ![0, 0, 0, 0] := by decide +kernel
theorem ix_9 : ∀ t : Fin cfg0.N, win0_9.index t = ![0, 0, 0] := by decide +kernel

section
variable (m : (ℓ : Loc nD τ sig) → Buf (Elt Ideal) ℓ) (c : Dev nD)

/-- The one block of each input is the argument. -/
theorem b0 (t : Fin cfg0.N) : iblk m c 0 t = m ((c : Thread nD τ).loc main_arg0) := by
  funext y
  blk_simp [iblk, ix_0]
  entry_read
  blk_ext [ix_0]

theorem b1 (t : Fin cfg0.N) : iblk m c 1 t = m ((c : Thread nD τ).loc main_arg1) := by
  funext y
  blk_simp [iblk, ix_1]
  entry_read
  blk_ext [ix_1]

theorem b2 (t : Fin cfg0.N) : iblk m c 2 t = m ((c : Thread nD τ).loc main_arg2) := by
  funext y
  blk_simp [iblk, ix_2]
  entry_read
  blk_ext [ix_2]

theorem b3 (t : Fin cfg0.N) : iblk m c 3 t = m ((c : Thread nD τ).loc main_arg3) := by
  funext y
  blk_simp [iblk, ix_3]
  entry_read
  blk_ext [ix_3]

theorem b4 (t : Fin cfg0.N) : iblk m c 4 t = m ((c : Thread nD τ).loc main_arg4) := by
  funext y
  blk_simp [iblk, ix_4]
  entry_read
  blk_ext [ix_4]

theorem b5 (t : Fin cfg0.N) : iblk m c 5 t = m ((c : Thread nD τ).loc main_arg5) := by
  funext y
  blk_simp [iblk, ix_5]
  entry_read
  blk_ext [ix_5]

theorem b6 (t : Fin cfg0.N) : iblk m c 6 t = m ((c : Thread nD τ).loc main_arg6) := by
  funext y
  blk_simp [iblk, ix_6]
  entry_read
  blk_ext [ix_6]

/-- The reference's first result, as a function of the arguments. -/
theorem final7 : (dats m 0 c).arrAt 7 cfg0.N = Step.G7 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7, b0, b1, b2, b3, b4, b5, b6]
  unfold_out out0_7
  simp only [ld0, ld1, ld2, ld3, ld4]
  refine Eq.trans ?_ ((oo_at (A0 := m ((c : Thread nD τ).loc main_arg0)) (A1 := m ((c : Thread nD τ).loc main_arg1))
    (A2 := m ((c : Thread nD τ).loc main_arg2)) (A3 := m ((c : Thread nD τ).loc main_arg3)) (A4 := m ((c : Thread nD τ).loc main_arg4)) (A5 := m ((c : Thread nD τ).loc main_arg5)) (A6 := m ((c : Thread nD τ).loc main_arg6)) (y 0) (y 1) (y 2)).trans ?_)
  · refine Eq.trans ?_ (congrArg _ (ix3_eta y).symm)
    frame_out
  · refine congrArg _ ?_
    blk_ext [ix_7]

/-- The reference's new codes, as a function of the arguments. -/
theorem final8 : (dats m 0 c).arrAt 8 cfg0.N = Step.G8 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8, b0, b1, b2, b3, b4, b5, b6]
  unfold_out out0_8
  simp only [ld0, ld1, ld2, ld3, ld4]
  refine Eq.trans ?_ ((cd_at (A0 := m ((c : Thread nD τ).loc main_arg0)) (A1 := m ((c : Thread nD τ).loc main_arg1))
    (A2 := m ((c : Thread nD τ).loc main_arg2)) (A3 := m ((c : Thread nD τ).loc main_arg3)) (A4 := m ((c : Thread nD τ).loc main_arg4)) (A5 := m ((c : Thread nD τ).loc main_arg5)) (A6 := m ((c : Thread nD τ).loc main_arg6)) (y 0) (y 1) (y 2) (y 3)).trans ?_)
  · refine Eq.trans ?_ (congrArg _ (ix4_eta y).symm)
    frame_out
  · refine congrArg _ ?_
    blk_ext [ix_8]

/-- The reference's new scales, as a function of the arguments. -/
theorem final9 : (dats m 0 c).arrAt 9 cfg0.N = Step.G9 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9, b0, b1, b2, b3, b4, b5, b6]
  unfold_out out0_9
  simp only [ld0, ld1, ld2, ld3, ld4]
  refine Eq.trans ?_ ((sc_at (A0 := m ((c : Thread nD τ).loc main_arg0)) (A1 := m ((c : Thread nD τ).loc main_arg1))
    (A2 := m ((c : Thread nD τ).loc main_arg2)) (A3 := m ((c : Thread nD τ).loc main_arg3)) (A4 := m ((c : Thread nD τ).loc main_arg4)) (A5 := m ((c : Thread nD τ).loc main_arg5)) (A6 := m ((c : Thread nD τ).loc main_arg6)) (y 0) (y 1) (y 2)).trans ?_)
  · refine Eq.trans ?_ (congrArg _ (ix3_eta y).symm)
    frame_out
  · refine congrArg _ ?_
    blk_ext [ix_9]

end

section
variable (m : (ℓ : Loc nD τ sig) → Buf (Elt Ideal) ℓ) (ρ : Dev nD → PrngReg)

/-- The run, with its results as functions of the arguments. -/
theorem run_value : θ_run (defs (F := Ideal)) (onTc (τ := τ) (main (F := Ideal))) ⟨m, fun _ => 0, ρ⟩ fun r => ∀ c : Dev nD,
      r.2.mem ((c : Thread nD τ).loc main_v0_0) = Step.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = Step.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) = Step.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run (defs (F := Ideal)) _ _).mono (fun r h c => by
    obtain ⟨h7, h8, h9, hargs⟩ := h c
    exact ⟨h7.trans (final7 m c), h8.trans (final8 m c), h9.trans (final9 m c), hargs⟩)
    (run_blocks (F := Ideal) m ρ)

end

end Cert.ReferenceIdeal.Val

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Reference.Frame
public import proofs.«01_k».proof.Proof.Gen.ReferenceIdeal.Frame
public import proofs.«01_k».proof.Proof.Transfer
public import proofs.«01_k».proof.Proof.KArr
public import proofs.«01_k».proof.Proof.Run
public import proofs.«01_k».proof.Proof.RArr

@[expose] public section

set_option maxRecDepth 16384

open Idealize.ShloMosaic Idealize.ShloMosaic.TcCoe Idealize.SL.Sem

namespace Cert.Proof

/-- Both programs end with the arrays of `Cert.Step`, as functions of the arguments. -/
theorem algebraic : @algebraic_KernelIdeal_ReferenceIdeal Cert.KernelIdeal.Gen.facts Cert.ReferenceIdeal.Gen.facts := by
  intro m g m' g' _ hag
  refine ⟨_, _, _, transfer m g _ (Cert.Kernel.Val.run_value m g),
    (θ_run _ _ _).mono (fun r h c => ?_) (Cert.ReferenceIdeal.Val.run_value m' g')⟩
  obtain ⟨a0, a1, a2, a3, a4, a5, a6⟩ := hag c
  obtain ⟨h7, h8, h9, hargs⟩ := h c
  rw [a0, a1, a2, a3, a4, a5, a6] at h7 h8 h9
  exact ⟨h7, h8, h9, hargs⟩

theorem claim : Cert.Claim :=
  ⟨Cert.Kernel.Gen.facts, Cert.KernelIdeal.Gen.facts, Cert.Reference.Gen.facts, Cert.ReferenceIdeal.Gen.facts,
    fun m g _ => Cert.Kernel.Val.frame m g, fun m g _ => Cert.kframe m g trivial, fun m g _ => Cert.Reference.Gen.frame m g,
    fun m g _ => Cert.ReferenceIdeal.Gen.frame m g, trivial, trivial, algebraic⟩

end Cert.Proof
